-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x8192 : Shape := ⟨3, ![2, 768, 8192]⟩
abbrev S8192x11264 : Shape := ⟨2, ![8192, 11264]⟩
abbrev S11264 : Shape := ⟨1, ![11264]⟩
abbrev S1536x8192 : Shape := ⟨2, ![1536, 8192]⟩
abbrev S1x11264 : Shape := ⟨2, ![1, 11264]⟩
abbrev S1536x1 : Shape := ⟨2, ![1536, 1]⟩
abbrev S128x8192 : Shape := ⟨2, ![128, 8192]⟩
abbrev S128x1 : Shape := ⟨2, ![128, 1]⟩
abbrev S128 : Shape := ⟨1, ![128]⟩
abbrev S1536x5632 : Shape := ⟨2, ![1536, 5632]⟩
abbrev S512x8192 : Shape := ⟨2, ![512, 8192]⟩
abbrev S512x1 : Shape := ⟨2, ![512, 1]⟩
abbrev S8192x512 : Shape := ⟨2, ![8192, 512]⟩
abbrev S1x512 : Shape := ⟨2, ![1, 512]⟩
abbrev S512x5632 : Shape := ⟨2, ![512, 5632]⟩
abbrev S512x512 : Shape := ⟨2, ![512, 512]⟩
abbrev S512 : Shape := ⟨1, ![512]⟩
abbrev S2x768x1 : Shape := ⟨3, ![2, 768, 1]⟩
abbrev S2x768x5632 : Shape := ⟨3, ![2, 768, 5632]⟩

abbrev nBuf : Space → Nat
  | .hbm => 13
  | .vmem => 23
  | .smem => 0
  | _ => 0

abbrev bufTy : (tb : Table) → Fin (tcTables nBuf tb) → BufTy
  | .hbm, ⟨0, _⟩ => ⟨S2x768x8192, .bf16⟩
  | .hbm, ⟨1, _⟩ => ⟨S8192x11264, .fp8e4m3⟩
  | .hbm, ⟨2, _⟩ => ⟨S11264, .f32⟩
  | .hbm, ⟨3, _⟩ => ⟨S1536x8192, .bf16⟩
  | .hbm, ⟨4, _⟩ => ⟨S1x11264, .f32⟩
  | .hbm, ⟨5, _⟩ => ⟨S1536x8192, .fp8e4m3⟩
  | .hbm, ⟨6, _⟩ => ⟨S1536x1, .f32⟩
  | .hbm, ⟨7, _⟩ => ⟨S1536x5632, .fp8e4m3⟩
  | .hbm, ⟨8, _⟩ => ⟨S1536x1, .f32⟩
  | .hbm, ⟨9, _⟩ => ⟨S2x768x1, .f32⟩
  | .hbm, ⟨10, _⟩ => ⟨S2x768x5632, .fp8e4m3⟩
  | .hbm, ⟨11, _⟩ => ⟨S2x768x8192, .fp8e4m3⟩
  | .hbm, ⟨12, _⟩ => ⟨S2x768x1, .f32⟩
  | .local _ .vmem, ⟨0, _⟩ => ⟨S128x8192, .bf16⟩
  | .local _ .vmem, ⟨1, _⟩ => ⟨S128x8192, .bf16⟩
  | .local _ .vmem, ⟨2, _⟩ => ⟨S128x8192, .fp8e4m3⟩
  | .local _ .vmem, ⟨3, _⟩ => ⟨S128x8192, .fp8e4m3⟩
  | .local _ .vmem, ⟨4, _⟩ => ⟨S128x1, .f32⟩
  | .local _ .vmem, ⟨5, _⟩ => ⟨S128x1, .f32⟩
  | .local _ .vmem, ⟨6, _⟩ => ⟨S512x8192, .fp8e4m3⟩
  | .local _ .vmem, ⟨7, _⟩ => ⟨S512x8192, .fp8e4m3⟩
  | .local _ .vmem, ⟨8, _⟩ => ⟨S512x1, .f32⟩
  | .local _ .vmem, ⟨9, _⟩ => ⟨S512x1, .f32⟩
  | .local _ .vmem, ⟨10, _⟩ => ⟨S8192x512, .fp8e4m3⟩
  | .local _ .vmem, ⟨11, _⟩ => ⟨S8192x512, .fp8e4m3⟩
  | .local _ .vmem, ⟨12, _⟩ => ⟨S8192x512, .fp8e4m3⟩
  | .local _ .vmem, ⟨13, _⟩ => ⟨S8192x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x5632, .fp8e4m3⟩
  | .local _ .vmem, ⟨19, _⟩ => ⟨S512x5632, .fp8e4m3⟩
  | .local _ .vmem, ⟨20, _⟩ => ⟨S512x1, .f32⟩
  | .local _ .vmem, ⟨21, _⟩ => ⟨S512x1, .f32⟩
  | .local _ .vmem, ⟨22, _⟩ => ⟨S512x5632, .f32⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![3, 11], ![false, false]⟩

def k1_mult1 (i : grid1.Coords) : BitVec 32 :=
  let arg1 : BitVec 32 := BitVec.ofNat 32 (i 1).val
  let c512_i32 : BitVec 32 := 512#32
  let v23 : BitVec 32 := Scalar.muli arg1 c512_i32
  v23
def k1_off1 (i : grid1.Coords) : Fin 2 → Nat :=
  let c0_12 : Index := 0#32
  let arg1 : BitVec 32 := BitVec.ofNat 32 (i 1).val
  let c512_i32 : BitVec 32 := 512#32
  let v23 : BitVec 32 := Scalar.muli arg1 c512_i32
  let v24 : BitVec 32 := v23
  let v25 : Index := Scalar.indexCast v24
  ![0, v25.toNat]
def k1_cond1 (i : grid1.Coords) : BitVec 1 :=
  let arg1 : BitVec 32 := BitVec.ofNat 32 (i 1).val
  let c10_i32 : BitVec 32 := 10#32
  let v29 : BitVec 1 := Scalar.cmpi .eq arg1 c10_i32
  let v30 : BitVec 32 := Scalar.extui v29
  let c0_i32 : BitVec 32 := 0#32
  let v31 : BitVec 1 := Scalar.cmpi .ne v30 c0_i32
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x8192 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8192x512 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x5632 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S2x768x8192 : Shape := ⟨3, ![2, 768, 8192]⟩
abbrev S8192x11264 : Shape := ⟨2, ![8192, 11264]⟩
abbrev S11264 : Shape := ⟨1, ![11264]⟩
abbrev S1x11264 : Shape := ⟨2, ![1, 11264]⟩
abbrev S2x768x1 : Shape := ⟨3, ![2, 768, 1]⟩
abbrev S2x768x5632 : Shape := ⟨3, ![2, 768, 5632]⟩
abbrev S1536x8192 : Shape := ⟨2, ![1536, 8192]⟩
abbrev S1536 : Shape := ⟨1, ![1536]⟩
abbrev S1536x1 : Shape := ⟨2, ![1536, 1]⟩
abbrev S1536x11264 : Shape := ⟨2, ![1536, 11264]⟩
abbrev S1536x5632 : Shape := ⟨2, ![1536, 5632]⟩

abbrev nBuf : Space → Nat
  | .hbm => 8
  | .vmem => 7
  | .smem => 0
  | _ => 0

abbrev bufTy : (tb : Table) → Fin (tcTables nBuf tb) → BufTy
  | .hbm, ⟨0, _⟩ => ⟨S2x768x8192, .bf16⟩
  | .hbm, ⟨1, _⟩ => ⟨S8192x11264, .fp8e4m3⟩
  | .hbm, ⟨2, _⟩ => ⟨S11264, .f32⟩
  | .hbm, ⟨3, _⟩ => ⟨S1x11264, .f32⟩
  | .hbm, ⟨4, _⟩ => ⟨S2x768x1, .f32⟩
  | .hbm, ⟨5, _⟩ => ⟨S2x768x5632, .fp8e4m3⟩
  | .hbm, ⟨6, _⟩ => ⟨S2x768x8192, .fp8e4m3⟩
  | .hbm, ⟨7, _⟩ => ⟨S2x768x1, .f32⟩
  | .local _ .vmem, ⟨0, _⟩ => ⟨S2x768x8192, .bf16⟩
  | .local _ .vmem, ⟨1, _⟩ => ⟨S8192x11264, .fp8e4m3⟩
  | .local _ .vmem, ⟨2, _⟩ => ⟨S1x11264, .f32⟩
  | .local _ .vmem, ⟨3, _⟩ => ⟨S2x768x1, .f32⟩
  | .local _ .vmem, ⟨4, _⟩ => ⟨S2x768x5632, .fp8e4m3⟩
  | .local _ .vmem, ⟨5, _⟩ => ⟨S2x768x8192, .fp8e4m3⟩
  | .local _ .vmem, ⟨6, _⟩ => ⟨S2x768x1, .f32⟩
  | _, _ => ⟨S2x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x768x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x11264 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x5632 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.QuantRegion.lean ====
/- Region 0 of the program: the quantiser of the activations `x`. What one grid point leaves in the two output
   blocks (the codes and the scales of 128 rows), the triple of the body, and the pipeline's proof data, all at a
   parameter `V` (the buffer contents when the region is entered) and for any float semantics `F`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x8192 := Rect.unit (s := S128x8192) ![0, 0] S128x8192.size inb_S128x8192_S128x8192_0_0
abbrev r0_1 : Rect S128x1 := Rect.unit (s := S128x1) ![0, 0] S128x1.size inb_S128x1_S128x1_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S128x8192 .bf16) : Vec F S128x8192 .fp8e4m3 :=
  View.canon [⟨r0_0, k0_pay1 (Scalar.ofBits .f32 0x43E00000#32) (k0_pay32 (k0_pay2 (View.ld x0 r0_0)) (k0_pay3 (View.ld x0 r0_0))
    (k0_pay4 (View.ld x0 r0_0)) (k0_pay16 (View.ld x0 r0_0)) (k0_pay18 (View.ld x0 r0_0))
    (k0_pay19 (View.ld x0 r0_0)) (k0_pay20 (F := F)))⟩]

/-- Its stores tile the buffer (checked by evaluation), so they cover it. -/
theorem cover0_1 (p0 : Vec F S128x8192 .fp8e4m3) (y : S128x8192.Idx) :
    ∃ pc ∈ ([⟨r0_0, p0⟩] : List (View.Piece (Elt F) S128x8192 .fp8e4m3)), y ∈ pc.1.set :=
  View.cover_of_tiled [⟨r0_0, p0⟩] S128x8192.size (by rfl) y

/-- Window 2's staging buffer after the body, from the input windows' blocks: its 1 store as pieces, LAST
    FIRST (Lib/Pipeline/FrameBody.lean `View.canon`; the payloads are the skeleton's). -/
def out0_2 (x0 : Vec F S128x8192 .bf16) : Vec F S128x1 .f32 :=
  View.canon [⟨r0_1, k0_pay31 (k0_pay3 (View.ld x0 r0_0)) (k0_pay4 (View.ld x0 r0_0)) (k0_pay19 (View.ld x0 r0_0))⟩]

/-- Its stores tile the buffer (checked by evaluation), so they cover it. -/
theorem cover0_2 (p0 : Vec F S128x1 .f32) (y : S128x1.Idx) :
    ∃ pc ∈ ([⟨r0_1, p0⟩] : List (View.Piece (Elt F) S128x1 .f32)), y ∈ pc.1.set :=
  View.cover_of_tiled [⟨r0_1, p0⟩] S128x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S128x8192 .bf16) (harg1 : arg1.IsWhole) (arg2 : Memref sig .tc .vmem S128x8192 .fp8e4m3) (harg2 : arg2.IsWhole) (arg3 : Memref sig .tc .vmem S128x1 .f32) (harg3 : arg3.IsWhole)
    (x0 : Vec F S128x8192 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_x_kernel i arg1 harg1 arg2 harg2 arg3 harg3) K := by
  simp only [cc0__quant_x_kernel_eq_skeleton]; unfold cc0__quant_x_kernel_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.GateUpBody.lean ====
/- Region 1, one grid point: what the body of the gate/up kernel does to its buffers. Every point writes its block of 512
   columns into the scratch row panel `arg10`; the last point of a row of points (second coordinate 10) then also
   quantises the whole panel into the two output blocks. Stated for any staging memrefs and any float semantics. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition and the column offset, from the grid coordinates -/

/-- The condition of the body's conditional. -/
abbrev last1 (i : grid1.Coords) : Prop := k1_cond1 i = 1#1

/-- It holds at the points whose second coordinate is 10. -/
theorem last1_iff : ∀ t : Fin cfg1.N, last1 (grid1.coords t) ↔ t.val % 11 = 10 :=
  (fun t => by
    have ht : t.val < 33 := Nat.lt_of_lt_of_eq t.isLt N_1
    have e0 : (grid1.coords t 0).val = t.val / 11 % 3 := Pipeline.Grid.coords_val t 0 (by decide) rfl
    have e1 : (grid1.coords t 1).val = t.val / 1 % 11 := Pipeline.Grid.coords_val t 1 (by decide) rfl
    simp only [last1, k1_cond1, e0, e1]
    word_cmp
   : ∀ t : Fin grid1.N, last1 (grid1.coords t) ↔ t.val % 11 = 10)

/-- The columns a point writes start at 512 times its second coordinate. -/
theorem off1_eq (i : grid1.Coords) : k1_off1 i = ![0, 512 * (i 1).val] := by
  have h : ∀ n : Fin 11, (Scalar.indexCast (Scalar.muli (BitVec.ofNat 32 n.val) 512#32) : Index).toNat = 512 * n.val := by decide
  have e := h ⟨(i 1).val, (i 1).isLt⟩
  unfold k1_off1
  exact congrArg (fun n => ![0, n]) e

/-! ## The scratch panel after a point -/

/-- The panel `d` with the block `p` put at the columns from `512 * j` on. -/
def putCols (j : ℕ) (d : Vec F S512x5632 .f32) (p : Vec F S512x512 .f32) : Vec F S512x5632 .f32 := fun y =>
  if h : 512 * j ≤ (y 1).val ∧ (y 1).val < 512 * j + 512 then p (Rect.unitLocal (s := S512x5632) (off := ![0, 512 * j]) (size := S512x512.size) y (by
    intro a; fin_cases a
    · exact ⟨Nat.zero_le _, (Nat.zero_add 512).symm ▸ (y 0).isLt⟩
    · exact h))
  else d y

/-- The store of a block at the point's columns, read back: the panel with the block put there. -/
theorem read_put {m : Memref sig .tc .vmem S512x5632 .f32} (i : grid1.Coords) (f : m.view.ty.Contents (Elt F)) (p : Vec F S512x512 .f32) :
    m.view.read (Elt F) (m.view.writes (Elt F) f [⟨Rect.unit (s := S512x5632) (k1_off1 i) S512x512.size (k1_off1_inb i), p⟩])
      = putCols (i 1).val (m.view.read (Elt F) f) p := by
  funext y
  unfold putCols
  split
  · next h =>
    refine View.read_writes_cons_unit_of_mem _ _ _ _ _ y _ (off1_eq i) fun a => ?_
    fin_cases a
    · show (y 0).val = 0 + (y 0).val; omega
    · show (y 1).val = 512 * (i 1).val + ((y 1).val - 512 * (i 1).val); omega
  · next h =>
    refine (View.read_writes_cons_unit_of_not_mem _ _ _ _ _ y (off1_eq i) (1 : Fin 2) ?_).trans rfl
    show (y 1).val < 512 * (i 1).val ∨ 512 * (i 1).val + 512 ≤ (y 1).val
    omega

/-- A load of a whole staging buffer that holds `x` gives `x`. -/
theorem load_whole {s : Shape} {e : EltTy} {m : Memref sig .tc .vmem s e} (hm : m.IsWhole) {off : Fin s.rank → ℕ}
    (inb : ∀ a, off a + s.size a ≤ s.size a) (x : Vec F s e) :
    m.view.readAt (Elt F) (Rect.unit off s.size inb).toLoadRect (hm.unread x) = x :=
  (View.readAt_full _ _ inb).trans (hm.read_unread x)

/-! ## The body's triple -/

set_option maxHeartbeats 1000000 in
/-- A point that is not the last of its row: the panel gains the point's block, the output buffers are left alone. -/
theorem gate_up_A (c : Dev nD) (E : Set ℕ) (i : grid1.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5632 .fp8e4m3) (harg8 : arg8.IsWhole) (arg9 : Memref sig .tc .vmem S512x1 .f32) (harg9 : arg9.IsWhole) (arg10 : Memref sig .tc .vmem S512x5632 .f32) (harg10 : arg10.IsWhole)
    (hc : ¬last1 i) (x0 : Vec F S512x8192 .fp8e4m3) (x1 : Vec F S512x1 .f32) (x2 : Vec F S8192x512 .fp8e4m3) (x3 : Vec F S8192x512 .fp8e4m3) (x4 : Vec F S1x512 .f32) (x5 : Vec F S1x512 .f32)
    (d : Vec F S512x5632 .f32) (d8 : Vec F S512x5632 .fp8e4m3) (d9 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare (putCols (i 1).val d (k1_pay1 x0 x1 x2 x3 x4 x5))) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10) K := by
  simp only [cc1__gate_up_kernel_eq_skeleton]; unfold cc1__gate_up_kernel_skel
  skip
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists f6; isplitr; · ipureintro; exact hf6
    iexact H6
  isplitl [H7]
  · iexists f7; isplitr; · ipureintro; exact hf7
    iexact H7
  iexists _; isplitr; swap; · iexact HS
  ipureintro
  subst hfs
  refine (read_put i fs _).trans (congrArg (putCols _ _) ?_)
  exact congr (congr (congr (congr (congr (congrArg k1_pay1 (load_whole harg2 inb_S512x8192_S512x8192_0_0 x0))
      (load_whole harg3 inb_S512x1_S512x1_0_0 x1)) (load_whole harg4 inb_S8192x512_S8192x512_0_0 x2))
      (load_whole harg5 inb_S8192x512_S8192x512_0_0 x3)) (load_whole harg6 inb_S1x512_S1x512_0_0 x4))
      (load_whole harg7 inb_S1x512_S1x512_0_0 x5)

/-- The scales of a whole panel's rows. -/
def scale1 (h : Vec F S512x5632 .f32) : Vec F S512x1 .f32 :=
  k1_pay29 (k1_pay2 h) (k1_pay3 h) (k1_pay17 h) (Scalar.ofBits .f32 0x41800000#32)

/-- The codes of a whole panel. -/
def codes1 (h : Vec F S512x5632 .f32) : Vec F S512x5632 .fp8e4m3 :=
  k1_pay30 h (k1_pay2 h) (k1_pay3 h) (k1_pay17 h) (k1_pay18 h) (Scalar.ofBits .f32 0x41800000#32)

set_option maxHeartbeats 1000000 in
/-- The last point of a row: the panel gains the point's block, and the codes and scales of the whole panel go to the
    output buffers. -/
theorem gate_up_B (c : Dev nD) (E : Set ℕ) (i : grid1.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x5632 .fp8e4m3) (harg8 : arg8.IsWhole) (arg9 : Memref sig .tc .vmem S512x1 .f32) (harg9 : arg9.IsWhole) (arg10 : Memref sig .tc .vmem S512x5632 .f32) (harg10 : arg10.IsWhole)
    (hc : last1 i) (x0 : Vec F S512x8192 .fp8e4m3) (x1 : Vec F S512x1 .f32) (x2 : Vec F S8192x512 .fp8e4m3) (x3 : Vec F S8192x512 .fp8e4m3) (x4 : Vec F S1x512 .f32) (x5 : Vec F S1x512 .f32)
    (d : Vec F S512x5632 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes1 (putCols (i 1).val d (k1_pay1 x0 x1 x2 x3 x4 x5))) ∗ owns (c : Thread nD τ) arg9 fullShare (scale1 (putCols (i 1).val d (k1_pay1 x0 x1 x2 x3 x4 x5))) ∗ owns (c : Thread nD τ) arg10 fullShare (putCols (i 1).val d (k1_pay1 x0 x1 x2 x3 x4 x5))) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10) K := by
  simp only [cc1__gate_up_kernel_eq_skeleton]; unfold cc1__gate_up_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  have hpan : arg10.view.read (Elt F) (arg10.view.writes (Elt F) fs (gate_up_B.sl.HS_1 c i arg2 harg2 arg3 harg3 arg4 harg4 arg5 harg5 arg6 harg6 arg7 harg7 x0 x1 x2 x3 x4 x5))
      = putCols (i 1).val d (k1_pay1 x0 x1 x2 x3 x4 x5) := by
    subst hfs
    refine (read_put i fs _).trans (congrArg (putCols _ _) ?_)
    exact congr (congr (congr (congr (congr (congrArg k1_pay1 (load_whole harg2 inb_S512x8192_S512x8192_0_0 x0))
      (load_whole harg3 inb_S512x1_S512x1_0_0 x1)) (load_whole harg4 inb_S8192x512_S8192x512_0_0 x2))
      (load_whole harg5 inb_S8192x512_S8192x512_0_0 x3)) (load_whole harg6 inb_S1x512_S1x512_0_0 x4))
      (load_whole harg7 inb_S1x512_S1x512_0_0 x5)
  have hr : arg10.view.readAt (Elt F) (Rect.unit (s := S512x5632) ![0, 0] S512x5632.size inb_S512x5632_S512x5632_0_0).toLoadRect
      (arg10.view.writes (Elt F) fs (gate_up_B.sl.HS_1 c i arg2 harg2 arg3 harg3 arg4 harg4 arg5 harg5 arg6 harg6 arg7 harg7 x0 x1 x2 x3 x4 x5))
      = putCols (i 1).val d (k1_pay1 x0 x1 x2 x3 x4 x5) :=
    (View.readAt_full _ _ _).trans hpan
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full arg8.view f6 inb_S512x5632_S512x5632_0_0 _ []).trans ?_
    unfold gate_up_B.sl.r_6 gate_up_B.sl.r gate_up_B.sl.r_1 gate_up_B.sl.r_2 gate_up_B.sl.r_3 gate_up_B.sl.r_4
    rw [hr]; rfl
  isplitl [H7]
  · iexists _; isplitr; swap; · iexact H7
    ipureintro
    refine (View.read_writes_full _ _ _ _ _).trans ?_
    unfold gate_up_B.sl.r_5 gate_up_B.sl.r_1 gate_up_B.sl.r_2 gate_up_B.sl.r_3
    rw [hr]; rfl
  iexists _; isplitr; swap; · iexact HS
  ipureintro
  exact hpan

end Cert.KernelIdeal.Run

end
-- ==== Proof.GateUpRegion.lean ====
/- Region 1, the whole grid: the scratch panel carried from point to point (after `j` points of a row of points its first
   `512 * j` columns are those of the row's panel), what each point leaves in the output blocks, and the pipeline's
   proof data with its body obligation. At a parameter `V` (the buffer contents when the region is entered). -/
module

public import proofs.«01_k».proof.Proof.GateUpBody
public import Idealize.ShloMosaic.Lib.Pointwise.Index

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The panel a row of points computes -/

/-- The block of 512 by 512 values point `t` computes. -/
def block1 (c : Dev nD) (t : Fin cfg1.N) : Vec F S512x512 .f32 :=
  k1_pay1 (iblk1 V c 0 t) (iblk1 V c 1 t) (iblk1 V c 2 t) (iblk1 V c 3 t) (iblk1 V c 4 t) (iblk1 V c 5 t)

/-- The point with a given number. -/
def pt1 (n : ℕ) : Fin cfg1.N := ⟨n % 33, lt_of_lt_of_eq (Nat.mod_lt _ (by decide)) N_1.symm⟩

theorem pt1_val (t : Fin cfg1.N) : pt1 t.val = t :=
  Fin.ext (Nat.mod_eq_of_lt (lt_of_lt_of_eq t.isLt N_1))

/-- The whole panel of row `q` of the points: its columns are the blocks of the row's eleven points side by side. -/
def panel1 (c : Dev nD) (q : ℕ) : Vec F S512x5632 .f32 := fun y =>
  block1 V c (pt1 (11 * q + (y 1).val / 512)) (ix2 (y 0) ⟨(y 1).val % 512, Nat.mod_lt _ (by decide)⟩)

/-- Before point number `n` the scratch holds the columns its row's earlier points have written. -/
def Agree1 (c : Dev nD) (n : ℕ) (d : Vec F S512x5632 .f32) : Prop :=
  ∀ y : S512x5632.Idx, (y 1).val < 512 * (n % 11) → d y = panel1 V c (n / 11) y

/-- The second coordinate of point `t`. -/
theorem coord1_1 (t : Fin cfg1.N) : (grid1.coords t 1).val = t.val % 11 := by
  have e1 : (grid1.coords t 1).val = t.val / 1 % 11 := Pipeline.Grid.coords_val (G := grid1) t 1 (by decide) rfl
  rw [e1, Nat.div_one]

/-- After a point's store the scratch agrees with its row's panel on the point's columns too. -/
theorem put_agree (c : Dev nD) (t : Fin cfg1.N) {d : Vec F S512x5632 .f32} (hd : Agree1 V c t.val d) (y : S512x5632.Idx)
    (hy : (y 1).val < 512 * (t.val % 11 + 1)) :
    putCols (grid1.coords t 1).val d (block1 V c t) y = panel1 V c (t.val / 11) y := by
  unfold putCols
  split
  · next h =>
    rw [coord1_1] at h
    unfold panel1
    have e : 11 * (t.val / 11) + (y 1).val / 512 = t.val := by omega
    have e' : (y 1).val - 512 * (t.val % 11) = (y 1).val % 512 := by omega
    rw [e, pt1_val]
    refine congrArg (block1 V c t) (funext fun a => Fin.ext ?_)
    fin_cases a
    · rfl
    · show (y 1).val - 512 * (grid1.coords t 1).val = (y 1).val % 512
      rw [coord1_1, e']
  · next h =>
    rw [coord1_1] at h
    exact hd y (by omega)

/-- So it agrees as the next point expects; -/
theorem agree_succ (c : Dev nD) (t : Fin cfg1.N) {d : Vec F S512x5632 .f32} (hd : Agree1 V c t.val d) :
    Agree1 V c (t.val + 1) (putCols (grid1.coords t 1).val d (block1 V c t)) := fun y hy => by
  by_cases h : t.val % 11 = 10
  · omega
  · rw [show (t.val + 1) / 11 = t.val / 11 by omega]
    exact put_agree V c t hd y (by omega)

/-- and after the row's last point it is the whole panel. -/
theorem put_last (c : Dev nD) (t : Fin cfg1.N) {d : Vec F S512x5632 .f32} (hd : Agree1 V c t.val d) (h : t.val % 11 = 10) :
    putCols (grid1.coords t 1).val d (block1 V c t) = panel1 V c (t.val / 11) := by
  funext y
  have : (y 1).val < 5632 := (y 1).isLt
  exact put_agree V c t hd y (by omega)

/-! ## The pipeline's proof data -/

/-- The scratch operand: a whole buffer of the region's own. -/
abbrev scM1 : Memref sig .tc .vmem S512x5632 .f32 := Memref.whole cc1_scratch0

/-- The scoped buffers the region leaves alone, each whole at some contents, beside `S`. -/
def beside1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The scoped rest is those buffers beside the scratch at some contents. -/
theorem scopedRest1_beside (c : Dev nD) :
    (Pipeline.scopedRest spec1 c : sProp 𝕄) = beside1 c iprop(∃ d, owns (c : Thread nD τ) scM1 fullShare d) := by
  rw [scopedRest1_eq]; unfold beside1; simp only [scM1, owns_whole]; try rfl

theorem beside1_mono (c : Dev nD) {S S' : sProp 𝕄} (h : S ⊢ S') : beside1 c S ⊢ beside1 c S' := by
  unfold beside1
  iintro ⟨H0, H1, H2, H3, H4, H5, HS⟩
  isplitl [H0]; · iexact H0
  isplitl [H1]; · iexact H1
  isplitl [H2]; · iexact H2
  isplitl [H3]; · iexact H3
  isplitl [H4]; · iexact H4
  isplitl [H5]; · iexact H5
  iapply h; iexact HS

/-- The scratch before point number `n`: at contents that agree with the row's panel so far. -/
def scratch1 (c : Dev nD) (n : ℕ) : sProp 𝕄 :=
  iprop(∃ d : Vec F S512x5632 .f32, ⌜Agree1 V c n d⌝ ∗ owns (c : Thread nD τ) scM1 fullShare d)

/-- The proof data of pipeline 1 on core `c`: the arrays as the region finds them; after a point each input's buffer at its
    block, each output's at the codes and scales of the row's panel; the invariant the scratch's, the other scoped
    buffers and the generator register; nothing owed; each input's share of its array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => codes1 (panel1 V c (t.val / 11))
    | ⟨7, _⟩ => scale1 (panel1 V c (t.val / 11))
  Φ n := iprop(beside1 c (scratch1 V c n.val) ∗ ∃ r, prngReg c r)
  q w := Pipeline.shareOf spec1 w
  owed _ := 0

theorem A_eq1 (c : Dev nD) (w : Fin cfg1.W) : (dat1 V c).A w = V c (Pipeline.arrRef spec1 w) := by
  dsimp only [dat1]

theorem Φ_eq1 (c : Dev nD) (n : Fin (cfg1.N + 1)) :
    (dat1 V c).Φ n = iprop(beside1 c (scratch1 V c n.val) ∗ ∃ r, prngReg c r) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = codes1 (panel1 V c (t.val / 11)) := by dsimp only [dat1]
theorem after1_7 (c : Dev nD) (t : Fin cfg1.N) : (dat1 V c).after 7 t = scale1 (panel1 V c (t.val / 11)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What a point hands back of an input window: its block. -/
theorem leaves1_in (c : Dev nD) (w : Fin cfg1.W) (t : Fin cfg1.N) (h : cfg1.idle w (grid1.coords t) = false) (hl : cfg1.loose w = false) :
    (dat1 V c).leavesExact w t = owns (c : Thread nD τ) ((cfg1.win w).stage (cfg1.slots t w)) fullShare ((dat1 V c).after w t) := by
  unfold Dat.leavesExact
  rw [show cfg1.idle w (cfg1.grid.coords t) = false from h]

/-- Where the body's condition holds the output windows are live, -/
theorem live1_out (t : Fin cfg1.N) (h : t.val % 11 = 10) :
    cfg1.idle 6 (grid1.coords t) = false ∧ cfg1.idle 7 (grid1.coords t) = false := by
  have e : k1_cond1 (grid1.coords t) = 1#1 := (last1_iff t).mpr h
  constructor <;> (show (!(k1_cond1 (grid1.coords t) == 1#1)) = false; rw [e]; rfl)

/-- and elsewhere idle. -/
theorem idle1_out (t : Fin cfg1.N) (h : ¬ t.val % 11 = 10) :
    cfg1.idle 6 (grid1.coords t) = true ∧ cfg1.idle 7 (grid1.coords t) = true := by
  have e : ¬ k1_cond1 (grid1.coords t) = 1#1 := fun hc => h ((last1_iff t).mp hc)
  constructor <;> (show (!(k1_cond1 (grid1.coords t) == 1#1)) = true; simp [e])

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
/-- The body at any point: the scratch agrees with the row's panel before and after it; at the row's last point the
    panel is whole and its codes and scales are what the output buffers hold. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [Φ_eq1, Φ_eq1, show (t.castSucc : Fin (cfg1.N + 1)).val = t.val from rfl, show (t.succ : Fin (cfg1.N + 1)).val = t.val + 1 from rfl,
    show (dat1 V c).owesAt () t.succ = (dat1 V c).owesAt () t.castSucc from rfl]
  rw [leaves1_in V c 0 t rfl rfl, leaves1_in V c 1 t rfl rfl, leaves1_in V c 2 t rfl rfl, leaves1_in V c 3 t rfl rfl,
    leaves1_in V c 4 t rfl rfl, leaves1_in V c 5 t rfl rfl]
  rw [after1_0, after1_1, after1_2, after1_3, after1_4, after1_5]
  unfold beside1 scratch1
  by_cases h0 : t.val % 11 = 10
  · rw [leaves1_in V c 6 t (live1_out t h0).1 rfl, leaves1_in V c 7 t (live1_out t h0).2 rfl, after1_6, after1_7]
    iintro ⟨⟨⟨R0, R1, R2, R3, R4, R5, ⟨%d, %hd, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (gate_up_B c Set.univ (grid1.coords t) _ _ _ _ _ _ _ _ _ _ _ _ _ _ _ _ _ _ ((last1_iff t).mpr h0) (iblk1 V c 0 t) (iblk1 V c 1 t) (iblk1 V c 2 t) (iblk1 V c 3 t) (iblk1 V c 4 t) (iblk1 V c 5 t) d _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    rw [show putCols (grid1.coords t 1).val d (k1_pay1 (iblk1 V c 0 t) (iblk1 V c 1 t) (iblk1 V c 2 t) (iblk1 V c 3 t) (iblk1 V c 4 t) (iblk1 V c 5 t)) = panel1 V c (t.val / 11) from put_last V c t hd h0]
    iintro ⟨H0, H1, H2, H3, H4, H5, H6, H7, HS⟩
    isplitl [R0 R1 R2 R3 R4 R5 HS Hg]
    · isplitl [R0 R1 R2 R3 R4 R5 HS]
      · isplitl [R0]; · iexact R0
        isplitl [R1]; · iexact R1
        isplitl [R2]; · iexact R2
        isplitl [R3]; · iexact R3
        isplitl [R4]; · iexact R4
        isplitl [R5]; · iexact R5
        iexists _; isplitr; swap; · iexact HS
        ipureintro; exact put_last V c t hd h0 ▸ agree_succ V c t hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [(dat1 V c).leavesExact_idle 6 t (idle1_out t h0).1 (Bool.eq_false_iff.mpr fun h => h0 ((flush1_6 t).mp h)),
      (dat1 V c).leavesExact_idle 7 t (idle1_out t h0).2 (Bool.eq_false_iff.mpr fun h => h0 ((flush1_7 t).mp h))]
    iintro ⟨⟨⟨R0, R1, R2, R3, R4, R5, ⟨%d, %hd, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (gate_up_A c Set.univ (grid1.coords t) _ _ _ _ _ _ _ _ _ _ _ _ _ _ _ _ _ _ (fun h => h0 ((last1_iff t).mp h)) (iblk1 V c 0 t) (iblk1 V c 1 t) (iblk1 V c 2 t) (iblk1 V c 3 t) (iblk1 V c 4 t) (iblk1 V c 5 t) d _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [R0 R1 R2 R3 R4 R5 HS Hg]
    · isplitl [R0 R1 R2 R3 R4 R5 HS]
      · isplitl [R0]; · iexact R0
        isplitl [R1]; · iexact R1
        isplitl [R2]; · iexact R2
        isplitl [R3]; · iexact R3
        isplitl [R4]; · iexact R4
        isplitl [R5]; · iexact R5
        iexists _; isplitr; swap; · iexact HS
        ipureintro; exact agree_succ V c t hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.Run.lean ====
/- The run of the whole program: the host reshapes, the two pipelined regions and the trailing reshapes chained from the
   launch to the return, at any `F`. It gives every buffer's final contents (`run`), and from them the frame (`frame`). -/
module

public import proofs.«01_k».proof.Proof.QuantRegion
public import proofs.«01_k».proof.Proof.GateUpRegion
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The scratch at the region's ends -/

/-- Before the first point nothing is asked of the scratch, -/
theorem scratch1_start (V : (c : Dev nD) → (b : Ref sig .tc) → Buf (Elt F) ((c : Thread nD τ).loc b)) (c : Dev nD) :
    (iprop(∃ d, owns (c : Thread nD τ) scM1 fullShare d) : sProp 𝕄) ⊢ scratch1 V c 0 := by
  unfold scratch1
  iintro ⟨%d, H⟩
  iexists d; isplitr; swap; · iexact H
  ipureintro; exact fun y hy => absurd hy (Nat.not_lt_zero _)

/-- and after any point it is at some contents. -/
theorem scratch1_any (V : (c : Dev nD) → (b : Ref sig .tc) → Buf (Elt F) ((c : Thread nD τ).loc b)) (c : Dev nD) (n : ℕ) :
    (scratch1 V c n : sProp 𝕄) ⊢ iprop(∃ d, owns (c : Thread nD τ) scM1 fullShare d) := by
  unfold scratch1
  iintro ⟨%d, -, H⟩
  iexists d; iexact H

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hr := beside1_mono (F := F) c (scratch1_start (V2 m ρ) c)
    rw [← scopedRest1_beside] at hr
    rw [show (pdats m ρ 1 c).Φ 0 = iprop(beside1 c (scratch1 (V2 m ρ) c 0) ∗ ∃ r, prngReg c r) from rfl]
    iintro ⟨Hp, -, Hr⟩
    isplitl [Hr]; · iapply hr; iexact Hr
    iexact Hp
  hout c := by
    have hr := beside1_mono (F := F) c (scratch1_any (V2 m ρ) c 33)
    rw [← scopedRest1_beside] at hr
    rw [Pipeline.ownSems0_none, show (pdats m ρ 1 c).Φ (Fin.last _) = iprop(beside1 c (scratch1 (V2 m ρ) c 33) ∗ ∃ r, prngReg c r) from rfl]
    iintro ⟨Hr, Hp⟩
    isplitl [Hp]; · iexact Hp
    isplitr; · iempintro
    iapply hr; iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run, at any `F`: from any memory with zero counters every weakly fair execution of @main on the
    TensorCores terminates, nothing faulting, and every final state holds every unscoped buffer at the last boundary's
    contents `W4` and every semaphore counter of the machine at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c)⟩, h.2⟩) (run m ρ)

end Cert.KernelIdeal.Run

end
-- ==== Proof.FrameBits.lean ====
/- The frame of the compiled program. Its program text and the one read at the extended reals are the same program, so the
   run proved at every `F` gives the frame at the machine's bits. -/
module

public import proofs.«01_k».proof.Defs
public import proofs.«01_k».proof.Proof.Gen.Kernel
public import proofs.«01_k».proof.Proof.Run

@[expose] public section

noncomputable section

namespace Cert.Proof

open Idealize.ShloMosaic Idealize.SL.Sem

attribute [local instance] Cert.KernelIdeal.Gen.facts Cert.Kernel.Gen.facts

/-- The statement of the frame for the program the run is proved of, read at the machine's bits. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- It holds: the run's frame at the machine's bits. -/
theorem frameAtBits : FrameAtBits := fun m g _ => Cert.KernelIdeal.Run.frame m g

/-- The two statements are one: the two printed programs unfold to the same text. -/
theorem quiescent_Kernel_eq : Cert.quiescent_Kernel = FrameAtBits := by chain_rfl

/-- The compiled program's frame. -/
theorem quiescent_Kernel : Cert.quiescent_Kernel := quiescent_Kernel_eq.mpr frameAtBits

/-- The frame at the extended reals. -/
theorem quiescent_KernelIdeal : Cert.quiescent_KernelIdeal := fun m g _ => Cert.KernelIdeal.Run.frame m g

end Cert.Proof

end
-- ==== Proof.Scale.lean ====
/- The scale of a quantised row, two ways, over the extended reals. The kernel climbs to the greatest power of two that is
   not above `amax / 448` by seven comparisons with steps 2^63, 2^32, 2^16, 2^8, 2^4, 2^2, 2 and doubles it, carrying the
   reciprocal beside it; the reference takes `floor(log2(amax / 448)) + 1` as the exponent, clamped to [-125, 128], and
   `exp2` of it and of its negation. Here: the two are equal for every `amax` (`kScale_eq`, `kInv_eq`). -/
module

public import Idealize.ShloMosaic.PureOps.Ideal
public import Idealize.ShloMosaic.Lib.IdealHost
public import Mathlib.Analysis.SpecialFunctions.Log.Basic
public import Mathlib.Analysis.SpecialFunctions.Pow.Real

@[expose] public section

noncomputable section

namespace Cert.Proof

open Idealize.ShloMosaic

/-- A 32-bit float constant's value. -/
abbrev lit (b : BitVec 32) : EReal := Ideal.ofBits .f32 b

/-! ## The kernel's scale and its reciprocal -/

/-- `amax / 448` as both programs compute it: the product with the constant nearest `1 / 448`. -/
def ratio (a : EReal) : EReal := a * lit 0x3B124925#32

/-- Whether the next step of the climb stays at or below the value. -/
def hit (v low up : EReal) : BitVec 1 := Ideal.cmp .oge v (low * up)

/-- One step of the climb, -/
def climb (v low up : EReal) : EReal := Scalar.select (hit v low up) (low * up) low

/-- and the same step of the reciprocal. -/
def descend (v low up inv down : EReal) : EReal := Scalar.select (hit v low up) (inv * down) inv

/-- The first comparison: whether the value is at least 2. -/
def start (v : EReal) : BitVec 1 := Ideal.cmp .oge v (lit 0x40000000#32)

def low0 (v : EReal) : EReal := Scalar.select (start v) (lit 0x40000000#32) (lit 0x00800000#32)
def low1 (v : EReal) : EReal := climb v (low0 v) (lit 0x5F000000#32)
def low2 (v : EReal) : EReal := climb v (low1 v) (lit 0x4F800000#32)
def low3 (v : EReal) : EReal := climb v (low2 v) (lit 0x47800000#32)
def low4 (v : EReal) : EReal := climb v (low3 v) (lit 0x43800000#32)
def low5 (v : EReal) : EReal := climb v (low4 v) (lit 0x41800000#32)
def low6 (v : EReal) : EReal := climb v (low5 v) (lit 0x40800000#32)
def low7 (v : EReal) : EReal := climb v (low6 v) (lit 0x40000000#32)

def inv0 (v : EReal) : EReal := Scalar.select (start v) (lit 0x3F000000#32) (lit 0x7E800000#32)
def inv1 (v : EReal) : EReal := descend v (low0 v) (lit 0x5F000000#32) (inv0 v) (lit 0x20000000#32)
def inv2 (v : EReal) : EReal := descend v (low1 v) (lit 0x4F800000#32) (inv1 v) (lit 0x2F800000#32)
def inv3 (v : EReal) : EReal := descend v (low2 v) (lit 0x47800000#32) (inv2 v) (lit 0x37800000#32)
def inv4 (v : EReal) : EReal := descend v (low3 v) (lit 0x43800000#32) (inv3 v) (lit 0x3B800000#32)
def inv5 (v : EReal) : EReal := descend v (low4 v) (lit 0x41800000#32) (inv4 v) (lit 0x3D800000#32)
def inv6 (v : EReal) : EReal := descend v (low5 v) (lit 0x40800000#32) (inv5 v) (lit 0x3E800000#32)
def inv7 (v : EReal) : EReal := descend v (low6 v) (lit 0x40000000#32) (inv6 v) (lit 0x3F000000#32)

/-- Whether the value is positive and finite. -/
def plain (v : EReal) : BitVec 1 :=
  IntOp.andi (Ideal.cmp .ogt v (lit 0x00000000#32)) (Ideal.cmp .olt v (lit 0x7F800000#32))

/-- The kernel's scale of a row whose greatest magnitude is `a`, -/
def kScale (a : EReal) : EReal :=
  Scalar.select (Ideal.cmp .oeq a (lit 0x00000000#32)) (lit 0x3F800000#32)
    (Scalar.select (plain (ratio a)) (low7 (ratio a) * lit 0x40000000#32) (lit 0x3F800000#32))

/-- and its reciprocal, by which the row is multiplied. -/
def kInv (a : EReal) : EReal :=
  Scalar.select (Ideal.cmp .oeq a (lit 0x00000000#32)) (lit 0x3F800000#32)
    (Scalar.select (plain (ratio a)) (inv7 (ratio a) * lit 0x3F000000#32) (lit 0x3F800000#32))

/-! ## The reference's exponent -/

/-- The reference's exponent for a row whose greatest magnitude is `a`. -/
def rExp (a : EReal) : EReal :=
  Scalar.select (plain (ratio a))
    (min (lit 0x43000000#32) (max (lit 0xC2FA0000#32)
      (Ideal.liftRound Int.floor (Ideal.div (Ideal.log (ratio a)) (Ideal.log (lit 0x40000000#32))) + lit 0x3F800000#32)))
    (lit 0x00000000#32)

/-! ## The constants -/

/-- A positive pattern with no fraction bits is a power of two. -/
theorem lit_pow (b : BitVec 32) (ex : ℕ) (hn : b.extractLsb' 31 1 = 0#1) (he : (b.extractLsb' 23 8).toNat = ex)
    (hf : (b.extractLsb' 0 23).toNat = 0) (h0 : ex ≠ 0) (h1 : ex ≠ 255) :
    lit b = (((2 : ℝ) ^ ((ex : ℤ) - 127) : ℝ) : EReal) := by
  have hz : (2 : ℝ) ≠ 0 := by norm_num
  simp only [lit, Ideal.ofBits, Ideal.ieee, hn, he, hf]
  rw [if_neg (by simpa using h1), if_neg h0]
  congr 1
  simp only [show ((0#1 : BitVec 1) == 1#1) = false from rfl, Bool.false_eq_true, if_false, one_mul]
  rw [show ((2 ^ 23 + 0 : ℕ) : ℝ) = (2 : ℝ) ^ (23 : ℤ) by norm_num, ← zpow_add₀ hz]
  congr 1
  push_cast
  ring

theorem lit_zero : lit 0x00000000#32 = 0 := by simp [lit, Ideal.ofBits, Ideal.ieee]
theorem lit_top : lit 0x7F800000#32 = ⊤ := by simp [lit, Ideal.ofBits, Ideal.ieee]
theorem lit_one : lit 0x3F800000#32 = 1 := Ideal.ofBits_one_f32

/-! ## The climb's invariant -/

/-- The exponent of the greatest power of two not above `r`. -/
def ilog (r : ℝ) : ℤ := ⌊Real.log r / Real.log 2⌋

/-- Where the climb ends: the exponent of the greatest power of two not above `r`, within [-126, 127]. -/
def goal (r : ℝ) : ℤ := min (max (ilog r) (-126)) 127

/-- The climb is at `2 ^ j`, its reciprocal at `2 ^ -j`, and the goal is at most `R` above. -/
def Near (r : ℝ) (R : ℤ) (low inv : EReal) : Prop :=
  ∃ j : ℤ, low = (((2 : ℝ) ^ j : ℝ) : EReal) ∧ inv = (((2 : ℝ) ^ (-j) : ℝ) : EReal)
    ∧ -126 ≤ j ∧ j + R ≤ 127 ∧ j ≤ goal r ∧ goal r ≤ j + R

theorem select_cmp_oge {x y a b : EReal} : Scalar.select (Ideal.cmp .oge x y) a b = if y ≤ x then a else b := by
  unfold Scalar.select Ideal.cmp
  by_cases h : y ≤ x <;> simp [h]

/-- A power of two is at or below `r` just when its exponent is at most `r`'s. -/
theorem pow_le_iff {r : ℝ} (hr : 0 < r) (j : ℤ) : (((2 : ℝ) ^ j : ℝ) : EReal) ≤ (r : EReal) ↔ j ≤ ilog r := by
  rw [EReal.coe_le_coe_iff]
  have hl2 : (0 : ℝ) < Real.log 2 := Real.log_pos (by norm_num)
  rw [← Real.log_le_log_iff (by positivity) hr, Real.log_zpow, ilog, Int.le_floor, le_div_iff₀ hl2]

/-- The start. -/
theorem near_start {r : ℝ} (hr : 0 < r) : Near r 126 (low0 r) (inv0 r) := by
  unfold low0 inv0 start
  rw [select_cmp_oge, select_cmp_oge, lit_pow 0x40000000#32 128 (by decide) (by decide) (by decide) (by decide) (by decide),
    lit_pow 0x00800000#32 1 (by decide) (by decide) (by decide) (by decide) (by decide),
    lit_pow 0x3F000000#32 126 (by decide) (by decide) (by decide) (by decide) (by decide),
    lit_pow 0x7E800000#32 253 (by decide) (by decide) (by decide) (by decide) (by decide)]
  simp only [pow_le_iff hr]
  by_cases h : ((128 : ℕ) : ℤ) - 127 ≤ ilog r
  · rw [if_pos h, if_pos h]
    refine ⟨1, rfl, rfl, ?_⟩
    unfold goal; omega
  · rw [if_neg h, if_neg h]
    refine ⟨-126, rfl, rfl, ?_⟩
    unfold goal; omega

/-- A step by `2 ^ k` leaves the goal at most `R` above, when it was at most `k + R` above and `k ≤ R + 1`. -/
theorem near_step {r : ℝ} (hr : 0 < r) {R k : ℤ} {low inv up down : EReal} (hn : Near r (k + R) low inv)
    (hu : up = (((2 : ℝ) ^ k : ℝ) : EReal)) (hd : down = (((2 : ℝ) ^ (-k) : ℝ) : EReal)) (hR : 0 ≤ R) (hk0 : 0 ≤ k) (hk : k ≤ R + 1) :
    Near r R (climb r low up) (descend r low up inv down) := by
  have hz : (2 : ℝ) ≠ 0 := by norm_num
  obtain ⟨j, rfl, rfl, h1, h2, h3, h4⟩ := hn
  unfold climb descend hit
  rw [select_cmp_oge, select_cmp_oge, hu, hd, ← EReal.coe_mul, ← EReal.coe_mul, ← zpow_add₀ hz, ← zpow_add₀ hz]
  simp only [pow_le_iff hr]
  unfold goal at h3 h4
  by_cases h : j + k ≤ ilog r
  · rw [if_pos h, if_pos h]
    refine ⟨j + k, rfl, by rw [neg_add], ?_⟩
    unfold goal; omega
  · rw [if_neg h, if_neg h]
    refine ⟨j, rfl, rfl, ?_⟩
    unfold goal; omega

/-- The end: the climb is at the goal. -/
theorem near_end {r : ℝ} (hr : 0 < r) : low7 r = (((2 : ℝ) ^ goal r : ℝ) : EReal) ∧ inv7 r = (((2 : ℝ) ^ (-goal r) : ℝ) : EReal) := by
  have h1 : Near r 63 (low1 r) (inv1 r) := near_step hr (k := 63) (near_start hr)
    (lit_pow _ 190 (by decide) (by decide) (by decide) (by decide) (by decide))
    (lit_pow _ 64 (by decide) (by decide) (by decide) (by decide) (by decide)) (by decide) (by decide) (by decide)
  have h2 : Near r 31 (low2 r) (inv2 r) := near_step hr (k := 32) h1
    (lit_pow _ 159 (by decide) (by decide) (by decide) (by decide) (by decide))
    (lit_pow _ 95 (by decide) (by decide) (by decide) (by decide) (by decide)) (by decide) (by decide) (by decide)
  have h3 : Near r 15 (low3 r) (inv3 r) := near_step hr (k := 16) h2
    (lit_pow _ 143 (by decide) (by decide) (by decide) (by decide) (by decide))
    (lit_pow _ 111 (by decide) (by decide) (by decide) (by decide) (by decide)) (by decide) (by decide) (by decide)
  have h4 : Near r 7 (low4 r) (inv4 r) := near_step hr (k := 8) h3
    (lit_pow _ 135 (by decide) (by decide) (by decide) (by decide) (by decide))
    (lit_pow _ 119 (by decide) (by decide) (by decide) (by decide) (by decide)) (by decide) (by decide) (by decide)
  have h5 : Near r 3 (low5 r) (inv5 r) := near_step hr (k := 4) h4
    (lit_pow _ 131 (by decide) (by decide) (by decide) (by decide) (by decide))
    (lit_pow _ 123 (by decide) (by decide) (by decide) (by decide) (by decide)) (by decide) (by decide) (by decide)
  have h6 : Near r 1 (low6 r) (inv6 r) := near_step hr (k := 2) h5
    (lit_pow _ 129 (by decide) (by decide) (by decide) (by decide) (by decide))
    (lit_pow _ 125 (by decide) (by decide) (by decide) (by decide) (by decide)) (by decide) (by decide) (by decide)
  have h7 : Near r 0 (low7 r) (inv7 r) := near_step hr (k := 1) h6
    (lit_pow _ 128 (by decide) (by decide) (by decide) (by decide) (by decide))
    (lit_pow _ 126 (by decide) (by decide) (by decide) (by decide) (by decide)) (by decide) (by decide) (by decide)
  obtain ⟨j, e, e', -, -, h, h'⟩ := h7
  obtain rfl : j = goal r := by omega
  exact ⟨e, e'⟩

/-! ## The two scales are equal -/

theorem select_one {α : Type} (a b : α) : Scalar.select 1#1 a b = a := rfl
theorem select_zero {α : Type} (a b : α) : Scalar.select 0#1 a b = b := rfl

/-- Either the value is a positive real, or neither program takes it for plain. -/
theorem plain_cases (v : EReal) : (∃ r : ℝ, 0 < r ∧ v = r ∧ plain v = 1#1) ∨ plain v = 0#1 := by
  unfold plain
  rw [lit_zero, lit_top]
  induction v using EReal.rec with
  | bot => right; simp [Ideal.cmp, IntOp.andi]
  | top => right; simp [Ideal.cmp, IntOp.andi]
  | coe r =>
    by_cases h : 0 < r
    · left; exact ⟨r, h, rfl, by simp [Ideal.cmp, IntOp.andi, h]⟩
    · right; simp [Ideal.cmp, IntOp.andi, h]

/-- The reference's exponent of a plain value is one above the climb's goal. -/
theorem rExp_plain {a : EReal} {r : ℝ} (hr : 0 < r) (hv : ratio a = r) (hp : plain (ratio a) = 1#1) :
    rExp a = (((goal r + 1 : ℤ) : ℝ) : EReal) := by
  have hl2 : (0 : ℝ) < Real.log 2 := Real.log_pos (by norm_num)
  unfold rExp
  rw [hp, select_one, hv, lit_one, lit_pow 0x40000000#32 128 (by decide) (by decide) (by decide) (by decide) (by decide),
    show (((128 : ℕ) : ℤ) - 127) = 1 from rfl, zpow_one, Ideal.log_coe, Ideal.log_coe, if_neg (not_le.mpr hr),
    if_neg (by norm_num), Ideal.div_coe hl2.ne', ← EReal.coe_mul, Ideal.liftRound_coe,
    show Real.log r * (1 / Real.log 2) = Real.log r / Real.log 2 by ring, show ⌊Real.log r / Real.log 2⌋ = ilog r from rfl,
    lit_pow 0x43000000#32 134 (by decide) (by decide) (by decide) (by decide) (by decide),
    show lit 0xC2FA0000#32 = ((-125 : ℝ) : EReal) by
      simp [lit, Ideal.ofBits, Ideal.ieee]; norm_cast; norm_num,
    ← EReal.coe_one, ← EReal.coe_add, ← EReal.coe_strictMono.monotone.map_max, ← EReal.coe_strictMono.monotone.map_min]
  congr 1
  rw [show (2 : ℝ) ^ (((134 : ℕ) : ℤ) - 127) = ((128 : ℤ) : ℝ) by norm_num, show (-125 : ℝ) = ((-125 : ℤ) : ℝ) by norm_num,
    show (1 : ℝ) = ((1 : ℤ) : ℝ) by norm_num, ← Int.cast_add, ← Int.cast_max, ← Int.cast_min]
  congr 1
  unfold goal; omega

theorem cmp_oeq_ne {a b : EReal} (h : a ≠ b) : Ideal.cmp .oeq a b = 0#1 := by simp [Ideal.cmp, h]

/-- A row whose value is plain has a greatest magnitude other than zero. -/
theorem ne_zero_of_plain {a : EReal} {r : ℝ} (hr : 0 < r) (hv : ratio a = r) : a ≠ lit 0x00000000#32 := by
  rintro rfl
  rw [ratio, lit_zero, zero_mul] at hv
  exact hr.ne (by exact_mod_cast hv)

/-- The kernel's scale is the reference's. -/
theorem kScale_eq (a : EReal) : kScale a = Ideal.exp2 (rExp a) := by
  have hz : (2 : ℝ) ≠ 0 := by norm_num
  unfold kScale
  rcases plain_cases (ratio a) with ⟨r, hr, hv, hp⟩ | hp
  · rw [rExp_plain hr hv hp, cmp_oeq_ne (ne_zero_of_plain hr hv), select_zero, hp, select_one, hv, (near_end hr).1,
      lit_pow 0x40000000#32 128 (by decide) (by decide) (by decide) (by decide) (by decide), ← EReal.coe_mul, ← zpow_add₀ hz,
      Ideal.exp2_coe]
    congr 1
    exact (Real.rpow_intCast 2 _).symm
  · have : rExp a = ((0 : ℝ) : EReal) := by unfold rExp; rw [hp, select_zero, lit_zero]; rfl
    rw [this, Ideal.exp2_coe, hp, select_zero, lit_one, show Real.rpow 2 0 = 1 from Real.rpow_zero 2]
    unfold Scalar.select; split <;> rfl

/-- The kernel's reciprocal is the reference's. -/
theorem kInv_eq (a : EReal) : kInv a = Ideal.exp2 (lit 0x00000000#32 - rExp a) := by
  have hz : (2 : ℝ) ≠ 0 := by norm_num
  unfold kInv
  rcases plain_cases (ratio a) with ⟨r, hr, hv, hp⟩ | hp
  · rw [rExp_plain hr hv hp, cmp_oeq_ne (ne_zero_of_plain hr hv), select_zero, hp, select_one, hv, (near_end hr).2,
      lit_pow 0x3F000000#32 126 (by decide) (by decide) (by decide) (by decide) (by decide), ← EReal.coe_mul, ← zpow_add₀ hz,
      lit_zero, zero_sub, ← EReal.coe_neg, Ideal.exp2_coe, ← Int.cast_neg]
    congr 1
    refine Eq.trans ?_ (Real.rpow_intCast 2 _).symm
    congr 1; push_cast; ring
  · have : rExp a = ((0 : ℝ) : EReal) := by unfold rExp; rw [hp, select_zero, lit_zero]; rfl
    rw [this, lit_zero, zero_sub, ← EReal.coe_neg, neg_zero, Ideal.exp2_coe, hp, select_zero, lit_one,
      show Real.rpow 2 0 = 1 from Real.rpow_zero 2]
    unfold Scalar.select; split <;> rfl

end Cert.Proof

end
-- ==== Proof.Spec.lean ====
/- What the program computes, row by row, over the extended reals: a row's greatest magnitude, its scale and its codes, the
   two projections of the quantised row, and the gated product. Both programs are shown to compute these. -/
module

public import proofs.«01_k».proof.Proof.Scale

@[expose] public section

noncomputable section

namespace Cert.Proof

open Idealize.ShloMosaic
open scoped BigOperators

/-- A row's greatest magnitude. -/
def top {n : ℕ} (f : Fin n → EReal) : EReal := Finset.univ.fold max (lit 0xFF800000#32) fun k => max (f k) (-(f k))

/-- The scale of a row whose greatest magnitude is `a`: a power of two. -/
def scaleOf (a : EReal) : EReal := Ideal.exp2 (rExp a)

/-- The code of `x` in such a row: `x` over the scale, clipped to [-448, 448]. -/
def codeOf (a x : EReal) : EReal :=
  min (lit 0x43E00000#32) (max (lit 0xC3E00000#32) (x * Ideal.exp2 (lit 0x00000000#32 - rExp a)))

/-- A projection of a row of codes: the sum of products, times the row's scale, times the column's. -/
def proj {n : ℕ} (codes : Fin n → EReal) (scale : EReal) (w : Fin n → EReal) (s : EReal) : EReal :=
  (lit 0x00000000#32 + ∑ k, codes k * w k) * scale * s

/-- The gated product: `silu gate * up`. -/
def gated (gate up : EReal) : EReal := gate * Ideal.logistic gate * up

/-- The gated product at column `j` of a row of codes: its gate column is column `j` of the weights, its up column `j + 5632`. -/
def gatedRow (codes : Fin 8192 → EReal) (scale : EReal) (w : Fin 8192 → Fin 11264 → EReal) (s : Fin 11264 → EReal) (j : Fin 5632) :
    EReal :=
  gated (proj codes scale (fun k => w k ⟨j.val, by omega⟩) (s ⟨j.val, by omega⟩))
    (proj codes scale (fun k => w k ⟨j.val + 5632, by omega⟩) (s ⟨j.val + 5632, by omega⟩))

/-! ## The four results, from the 1536 rows `X`, the weights `W` and the columns' scales `S` -/

section Results
variable (X : Fin 1536 → Fin 8192 → EReal) (W : Fin 8192 → Fin 11264 → EReal) (S : Fin 11264 → EReal)

/-- The codes of the input. -/
def xCodes (r : Fin 1536) (k : Fin 8192) : EReal := codeOf (top (X r)) (X r k)

/-- The input's row scales. -/
def xScale (r : Fin 1536) : EReal := scaleOf (top (X r))

/-- The gated product. -/
def product (r : Fin 1536) (j : Fin 5632) : EReal := gatedRow (xCodes X r) (xScale X r) W S j

/-- The codes of the gated product. -/
def hCodes (r : Fin 1536) (j : Fin 5632) : EReal := codeOf (top (product X W S r)) (product X W S r j)

/-- The gated product's row scales. -/
def hScale (r : Fin 1536) : EReal := scaleOf (top (product X W S r))

end Results

/-- The 1536 rows of two batches of 768, -/
def rows {n : ℕ} (A : Fin 2 → Fin 768 → Fin n → EReal) (r : Fin 1536) (k : Fin n) : EReal :=
  A ⟨r.val / 768, by omega⟩ ⟨r.val % 768, by omega⟩ k

/-- of which row `t` of batch `b` is number `768 b + t`. -/
def row (b : Fin 2) (t : Fin 768) : Fin 1536 := ⟨b.val * 768 + t.val, by omega⟩

end Cert.Proof

end
-- ==== Proof.HostPoint.lean ====
/- The host's reshapes at an index: rows of two batches as one run of rows and back, and the vector of column scales as a row. -/
module

public import proofs.«01_k».proof.Proof.Run
public import proofs.«01_k».proof.Proof.Spec
public import Idealize.ShloMosaic.Lib.Pipeline.ValueKit

@[expose] public section

noncomputable section

namespace Cert.KernelIdeal.Run

open Cert.KernelIdeal.Gen Cert.Proof
open Idealize.ShloMosaic Idealize.ShloMosaic.TcCoe

variable {F : FTy → Type} [FloatOps F] (W : Valuation τ sig (Elt F))

/-! Before the regions. -/

theorem rows_at (r : Fin 1536) (k : Fin 8192) :
    (StableHlo.after hostOps0 W (Proc.devRef .tc main_v0) : Vec F S1536x8192 .bf16) (ix2 r k)
      = (W (Proc.devRef .tc main_arg0) : Vec F S2x768x8192 .bf16) (ix3 ⟨r.val / 768, by omega⟩ ⟨r.val % 768, by omega⟩ k) := by
  after_results_simp
  simp only [pointwise]

theorem cols_at (j : Fin 11264) :
    (StableHlo.after hostOps0 W (Proc.devRef .tc main_v1) : Vec F S1x11264 .f32) (ix2 0 j)
      = (W (Proc.devRef .tc main_arg2) : Vec F S11264 .f32) (ix1 j) := by
  after_results_simp
  simp only [pointwise]

/-! After them. -/

theorem ret4_at (b : Fin 2) (t : Fin 768) :
    (StableHlo.after hostOps2 W (Proc.devRef .tc main_v4) : Vec F S2x768x1 .f32) (ix3 b t 0)
      = (W (Proc.devRef .tc main_v3_1) : Vec F S1536x1 .f32) (ix2 (row b t) 0) := by
  after_results_simp
  simp only [pointwise]
  rfl

theorem ret5_at (b : Fin 2) (t : Fin 768) (k : Fin 5632) :
    (StableHlo.after hostOps2 W (Proc.devRef .tc main_v5) : Vec F S2x768x5632 .fp8e4m3) (ix3 b t k)
      = (W (Proc.devRef .tc main_v3_0) : Vec F S1536x5632 .fp8e4m3) (ix2 (row b t) k) := by
  after_results_simp
  simp only [pointwise]
  rfl

theorem ret6_at (b : Fin 2) (t : Fin 768) (k : Fin 8192) :
    (StableHlo.after hostOps2 W (Proc.devRef .tc main_v6) : Vec F S2x768x8192 .fp8e4m3) (ix3 b t k)
      = (W (Proc.devRef .tc main_v2_0) : Vec F S1536x8192 .fp8e4m3) (ix2 (row b t) k) := by
  after_results_simp
  simp only [pointwise]
  rfl

theorem ret7_at (b : Fin 2) (t : Fin 768) :
    (StableHlo.after hostOps2 W (Proc.devRef .tc main_v7) : Vec F S2x768x1 .f32) (ix3 b t 0)
      = (W (Proc.devRef .tc main_v2_1) : Vec F S1536x1 .f32) (ix2 (row b t) 0) := by
  after_results_simp
  simp only [pointwise]
  rfl

end Cert.KernelIdeal.Run

end
-- ==== Proof.Ladder.lean ====
/- The scalar arithmetic of the two programs over any interpretation of the floats, exactly as printed: the kernel's scale, its
   reciprocal and its codes; the reference's exponent, scale and codes. And what each is over the extended reals
   (`kScale_ideal` and the like), where the kernel's and the reference's are equal (`Cert.Proof.kScale_eq`, `kInv_eq`).

   The interpretation is left open so that a constant stays a constant: nothing here looks into a bit pattern. -/
module

public import proofs.«01_k».proof.Proof.Spec
public import Idealize.ShloMosaic.Lib.Pointwise

@[expose] public section

noncomputable section

namespace Cert.Proof.Ops

open Idealize.ShloMosaic

/-- The 8-bit format is narrower than the 32-bit one. -/
theorem narrows : FTy.bits .fp8e4m3 < FTy.bits .f32 := by decide

section Open
variable {F : FTy → Type} [FloatOps F]

/-- A 32-bit float constant. -/
abbrev cst (b : BitVec 32) : F .f32 := Scalar.ofBits .f32 b

def ratio (a : F .f32) : F .f32 := FloatOps.mulf a (cst 0x3B124925#32)

def hit (v low up : F .f32) : BitVec 1 := FloatOps.cmpf .oge v (FloatOps.mulf low up)
def climb (v low up : F .f32) : F .f32 := Scalar.select (hit v low up) (FloatOps.mulf low up) low
def descend (v low up inv down : F .f32) : F .f32 := Scalar.select (hit v low up) (FloatOps.mulf inv down) inv
def start (v : F .f32) : BitVec 1 := FloatOps.cmpf .oge v (cst 0x40000000#32)

def low0 (v : F .f32) : F .f32 := Scalar.select (start v) (cst 0x40000000#32) (cst 0x00800000#32)
def low1 (v : F .f32) : F .f32 := climb v (low0 v) (cst 0x5F000000#32)
def low2 (v : F .f32) : F .f32 := climb v (low1 v) (cst 0x4F800000#32)
def low3 (v : F .f32) : F .f32 := climb v (low2 v) (cst 0x47800000#32)
def low4 (v : F .f32) : F .f32 := climb v (low3 v) (cst 0x43800000#32)
def low5 (v : F .f32) : F .f32 := climb v (low4 v) (cst 0x41800000#32)
def low6 (v : F .f32) : F .f32 := climb v (low5 v) (cst 0x40800000#32)
def low7 (v : F .f32) : F .f32 := climb v (low6 v) (cst 0x40000000#32)

def inv0 (v : F .f32) : F .f32 := Scalar.select (start v) (cst 0x3F000000#32) (cst 0x7E800000#32)
def inv1 (v : F .f32) : F .f32 := descend v (low0 v) (cst 0x5F000000#32) (inv0 v) (cst 0x20000000#32)
def inv2 (v : F .f32) : F .f32 := descend v (low1 v) (cst 0x4F800000#32) (inv1 v) (cst 0x2F800000#32)
def inv3 (v : F .f32) : F .f32 := descend v (low2 v) (cst 0x47800000#32) (inv2 v) (cst 0x37800000#32)
def inv4 (v : F .f32) : F .f32 := descend v (low3 v) (cst 0x43800000#32) (inv3 v) (cst 0x3B800000#32)
def inv5 (v : F .f32) : F .f32 := descend v (low4 v) (cst 0x41800000#32) (inv4 v) (cst 0x3D800000#32)
def inv6 (v : F .f32) : F .f32 := descend v (low5 v) (cst 0x40800000#32) (inv5 v) (cst 0x3E800000#32)
def inv7 (v : F .f32) : F .f32 := descend v (low6 v) (cst 0x40000000#32) (inv6 v) (cst 0x3F000000#32)

def plain (v : F .f32) : BitVec 1 :=
  IntOp.andi (FloatOps.cmpf .ogt v (cst 0x00000000#32)) (FloatOps.cmpf .olt v (cst 0x7F800000#32))

/-- The kernel's scale of a row whose greatest magnitude is `a`, -/
def kScale (a : F .f32) : F .f32 :=
  Scalar.select (FloatOps.cmpf .oeq a (cst 0x00000000#32)) (cst 0x3F800000#32)
    (Scalar.select (plain (ratio a)) (FloatOps.mulf (low7 (ratio a)) (cst 0x40000000#32)) (cst 0x3F800000#32))

/-- its reciprocal, -/
def kInv (a : F .f32) : F .f32 :=
  Scalar.select (FloatOps.cmpf .oeq a (cst 0x00000000#32)) (cst 0x3F800000#32)
    (Scalar.select (plain (ratio a)) (FloatOps.mulf (inv7 (ratio a)) (cst 0x3F000000#32)) (cst 0x3F800000#32))

/-- `x * inv` clipped to [-448, 448]. -/
def clip (x inv : F .f32) : F .f32 :=
  FloatOps.minimumf (cst 0x43E00000#32) (FloatOps.maximumf (cst 0xC3E00000#32) (FloatOps.mulf x inv))

/-- and the code of `x` in such a row. -/
def kCode (a x : F .f32) : F .fp8e4m3 := FloatOps.truncf .fp8e4m3 narrows (clip x (kInv a))

/-- The reference's exponent, -/
def rExp (a : F .f32) : F .f32 :=
  Scalar.select (plain (ratio a))
    (FloatOps.minimumf (cst 0x43000000#32) (FloatOps.maximumf (cst 0xC2FA0000#32)
      (FloatOps.addf (FloatOps.floor (FloatOps.divf (FloatOps.log (ratio a)) (FloatOps.log (cst 0x40000000#32)))) (cst 0x3F800000#32))))
    (cst 0x00000000#32)

/-- its scale -/
def rScale (a : F .f32) : F .f32 := FloatOps.exp2 (rExp a)

/-- and its codes. -/
def rCode (a x : F .f32) : F .fp8e4m3 :=
  FloatOps.truncf .fp8e4m3 narrows (clip x (FloatOps.exp2 (FloatOps.subf (cst 0x00000000#32) (rExp a))))

end Open

/-! ## Over the extended reals -/

theorem cst_ideal (b : BitVec 32) : (cst b : Ideal .f32) = lit b := rfl
theorem mulf_ideal (a b : Ideal .f32) : FloatOps.mulf a b = (a * b : EReal) := rfl
theorem cmpf_ideal (p : CmpFPredicate) (a b : Ideal .f32) : FloatOps.cmpf p a b = Ideal.cmp p a b := rfl

theorem ratio_ideal (a : Ideal .f32) : ratio a = Proof.ratio a := by rw [ratio, Proof.ratio, cst_ideal, mulf_ideal]
theorem hit_ideal (v l u : Ideal .f32) : hit v l u = Proof.hit v l u := rfl
theorem climb_ideal (v l u : Ideal .f32) : climb v l u = Proof.climb v l u := rfl
theorem descend_ideal (v l u i d : Ideal .f32) : descend v l u i d = Proof.descend v l u i d := rfl
theorem start_ideal (v : Ideal .f32) : start v = Proof.start v := by rw [start, Proof.start, cst_ideal, cmpf_ideal]
theorem plain_ideal (v : Ideal .f32) : plain v = Proof.plain v := by
  simp only [plain, Proof.plain, cst_ideal, cmpf_ideal]

theorem low7_ideal (v : Ideal .f32) : low7 v = Proof.low7 v := by
  simp only [low7, low6, low5, low4, low3, low2, low1, low0, climb_ideal, start_ideal, cst_ideal,
    Proof.low7, Proof.low6, Proof.low5, Proof.low4, Proof.low3, Proof.low2, Proof.low1, Proof.low0]

theorem inv7_ideal (v : Ideal .f32) : inv7 v = Proof.inv7 v := by
  simp only [inv7, inv6, inv5, inv4, inv3, inv2, inv1, inv0, low6, low5, low4, low3, low2, low1, low0, climb_ideal,
    descend_ideal, start_ideal, cst_ideal, Proof.inv7, Proof.inv6, Proof.inv5, Proof.inv4, Proof.inv3, Proof.inv2, Proof.inv1,
    Proof.inv0, Proof.low6, Proof.low5, Proof.low4, Proof.low3, Proof.low2, Proof.low1, Proof.low0]

/-- The kernel's scale is the row's scale. -/
theorem kScale_ideal (a : Ideal .f32) : kScale a = scaleOf a := by
  rw [scaleOf, ← kScale_eq]
  simp only [kScale, Proof.kScale, low7_ideal, ratio_ideal, plain_ideal, cst_ideal, cmpf_ideal, mulf_ideal]

theorem kInv_ideal (a : Ideal .f32) : kInv a = Ideal.exp2 (lit 0x00000000#32 - Proof.rExp a) := by
  rw [← kInv_eq]
  simp only [kInv, Proof.kInv, inv7_ideal, ratio_ideal, plain_ideal, cst_ideal, cmpf_ideal, mulf_ideal]

theorem clip_ideal (x i : Ideal .f32) : clip x i = (min (lit 0x43E00000#32) (max (lit 0xC3E00000#32) (x * i)) : EReal) := by
  have h : ∀ (p q : BitVec 32), FloatOps.minimumf (cst p) (FloatOps.maximumf (cst q) (FloatOps.mulf x i))
      = (min (lit p) (max (lit q) (x * i)) : EReal) := fun _ _ => rfl
  exact h _ _

/-- The kernel's codes are the row's codes. -/
theorem kCode_ideal (a x : Ideal .f32) : kCode a x = codeOf a x := by
  have h : kCode a x = clip x (kInv a) := rfl
  rw [h, clip_ideal, kInv_ideal, codeOf]

theorem rExp_ideal (a : Ideal .f32) : rExp a = Proof.rExp a := by
  have h : ∀ (p q r s t : BitVec 32) (c : BitVec 1) (w : Ideal .f32), Scalar.select c
      (FloatOps.minimumf (cst p) (FloatOps.maximumf (cst q)
        (FloatOps.addf (FloatOps.floor (FloatOps.divf (FloatOps.log w) (FloatOps.log (cst r)))) (cst s)))) (cst t)
      = (Scalar.select c (min (lit p) (max (lit q)
          (Ideal.liftRound Int.floor (Ideal.div (Ideal.log w) (Ideal.log (lit r))) + lit s))) (lit t) : EReal) :=
    fun _ _ _ _ _ _ _ => rfl
  rw [rExp, h, plain_ideal, ratio_ideal, Proof.rExp]

/-- The reference's scale is the row's scale. -/
theorem rScale_ideal (a : Ideal .f32) : rScale a = scaleOf a := by
  have h : rScale a = Ideal.exp2 (rExp a) := rfl
  rw [h, rExp_ideal, scaleOf]

/-- The reference's codes are the row's codes. -/
theorem rCode_ideal (a x : Ideal .f32) : rCode a x = codeOf a x := by
  have h : ∀ b : BitVec 32, FloatOps.truncf .fp8e4m3 narrows (clip x (FloatOps.exp2 (FloatOps.subf (cst b) (rExp a))))
      = clip x (Ideal.exp2 (lit b - rExp a) : EReal) := fun _ => rfl
  rw [rCode, h, clip_ideal, rExp_ideal, codeOf]

end Cert.Proof.Ops

end
-- ==== Proof.KernelPoint.lean ====
/- What one grid point of each region stores, at an index, over any interpretation of the floats: the scale of a row and the
   code of an entry as the row's scalar arithmetic (`Ops.kScale`, `Ops.kCode`) of the row's greatest magnitude. -/
module

public import proofs.«01_k».proof.Proof.Ladder
public import proofs.«01_k».proof.Proof.GateUpRegion
public import proofs.«01_k».proof.Proof.QuantRegion
public import Idealize.ShloMosaic.Lib.Pointwise

@[expose] public section

noncomputable section

namespace Cert.KernelIdeal.Run

open Cert.KernelIdeal.Gen Cert.Proof
open Idealize.ShloMosaic
open scoped BigOperators

variable {F : FTy → Type} [FloatOps F]

/-! ## The quantising region -/

section Quant
variable (X : Vec F S128x8192 .bf16) (y : S128x1.Idx)

theorem ratio0_at : k0_pay4 X y = Ops.ratio (k0_pay3 X y) := rfl
theorem low0_0_at : k0_pay6 X y = Ops.low0 (k0_pay4 X y) := rfl
theorem low0_1_at : k0_pay9 X y = Ops.climb (k0_pay4 X y) (k0_pay6 X y) (Ops.cst 0x5F000000#32) := rfl
theorem low0_2_at : k0_pay12 X y = Ops.climb (k0_pay4 X y) (k0_pay9 X y) (Ops.cst 0x4F800000#32) := rfl
theorem low0_3_at : k0_pay15 X y = Ops.climb (k0_pay4 X y) (k0_pay12 X y) (Ops.cst 0x47800000#32) := rfl
theorem low0_4_at : k0_pay19 X y = Ops.climb (k0_pay4 X y) (k0_pay15 X y) (Ops.cst 0x43800000#32) := rfl

/-- The reciprocal after three steps. -/
theorem inv0_3_at : k0_pay16 X y = Ops.inv3 (k0_pay4 X y) := by
  have e : k0_pay16 X y = Ops.descend (k0_pay4 X y) (k0_pay12 X y) (Ops.cst 0x47800000#32)
      (Ops.descend (k0_pay4 X y) (k0_pay9 X y) (Ops.cst 0x4F800000#32)
        (Ops.descend (k0_pay4 X y) (k0_pay6 X y) (Ops.cst 0x5F000000#32) (Ops.inv0 (k0_pay4 X y)) (Ops.cst 0x20000000#32))
        (Ops.cst 0x2F800000#32)) (Ops.cst 0x37800000#32) := rfl
  rw [e, low0_2_at, low0_1_at, low0_0_at]; rfl

/-- Four steps of the climb. -/
theorem climb0_at : k0_pay19 X y = Ops.low4 (k0_pay4 X y) := by
  rw [low0_4_at, low0_3_at, low0_2_at, low0_1_at, low0_0_at]; rfl

theorem hit0_4_at : k0_pay18 X y = Ops.hit (k0_pay4 X y) (Ops.low3 (k0_pay4 X y)) (Ops.cst 0x43800000#32) := by
  have e : k0_pay18 X y = Ops.hit (k0_pay4 X y) (k0_pay15 X y) (Ops.cst 0x43800000#32) := rfl
  rw [e, low0_3_at, low0_2_at, low0_1_at, low0_0_at]; rfl

section Rest
variable (v7 v40 : FVec F S128x1 .f32)
theorem low0_5_at : k0_pay23 v7 v40 y = Ops.climb (v7 y) (v40 y) (Ops.cst 0x41800000#32) := rfl
theorem hit0_5_at : k0_pay22 v7 v40 y = Ops.hit (v7 y) (v40 y) (Ops.cst 0x41800000#32) := rfl
theorem low0_6_at : k0_pay26 v7 v40 y = Ops.climb (v7 y) (k0_pay23 v7 v40 y) (Ops.cst 0x40800000#32) := rfl
theorem hit0_6_at : k0_pay25 v7 v40 y = Ops.hit (v7 y) (k0_pay23 v7 v40 y) (Ops.cst 0x40800000#32) := rfl
theorem hit0_7_at : k0_pay28 v7 v40 y = Ops.hit (v7 y) (k0_pay26 v7 v40 y) (Ops.cst 0x40000000#32) := rfl
end Rest

/-- The scale of a row. -/
theorem scale0_at : k0_pay31 (k0_pay3 X) (k0_pay4 X) (k0_pay19 X) y = Ops.kScale (k0_pay3 X y) := by
  have e : k0_pay31 (k0_pay3 X) (k0_pay4 X) (k0_pay19 X) y
      = Scalar.select (FloatOps.cmpf .oeq (k0_pay3 X y) (Ops.cst 0x00000000#32)) (Ops.cst 0x3F800000#32)
        (Scalar.select (Ops.plain (k0_pay4 X y)) (FloatOps.mulf (Ops.climb (k0_pay4 X y)
          (k0_pay26 (k0_pay4 X) (k0_pay19 X) y) (Ops.cst 0x40000000#32)) (Ops.cst 0x40000000#32))
          (Ops.cst 0x3F800000#32)) := rfl
  rw [e, low0_6_at, low0_5_at, climb0_at, ratio0_at]; rfl

/-- The code of an entry. -/
theorem code0_at (r : Fin 128) (k : Fin 8192) :
    k0_pay1 (Scalar.ofBits .f32 0x43E00000#32) (k0_pay32 (k0_pay2 X) (k0_pay3 X) (k0_pay4 X) (k0_pay16 X) (k0_pay18 X)
      (k0_pay19 X) (k0_pay20 (F := F))) (ix2 r k)
      = Ops.kCode (k0_pay3 X (ix2 r 0)) (k0_pay2 X (ix2 r k)) := by
  have e : k0_pay1 (Scalar.ofBits .f32 0x43E00000#32) (k0_pay32 (k0_pay2 X) (k0_pay3 X) (k0_pay4 X) (k0_pay16 X) (k0_pay18 X)
      (k0_pay19 X) (k0_pay20 (F := F))) (ix2 r k)
      = FloatOps.truncf .fp8e4m3 Ops.narrows (Ops.clip (k0_pay2 X (ix2 r k))
        (Scalar.select (FloatOps.cmpf .oeq (k0_pay3 X (ix2 r 0)) (Ops.cst 0x00000000#32)) (Ops.cst 0x3F800000#32)
        (Scalar.select (Ops.plain (k0_pay4 X (ix2 r 0))) (FloatOps.mulf (Ops.descend (k0_pay4 X (ix2 r 0))
          (k0_pay26 (k0_pay4 X) (k0_pay19 X) (ix2 r 0)) (Ops.cst 0x40000000#32)
          (Ops.descend (k0_pay4 X (ix2 r 0)) (k0_pay23 (k0_pay4 X) (k0_pay19 X) (ix2 r 0)) (Ops.cst 0x40800000#32)
            (Ops.descend (k0_pay4 X (ix2 r 0)) (k0_pay19 X (ix2 r 0)) (Ops.cst 0x41800000#32)
              (Scalar.select (k0_pay18 X (ix2 r 0)) (FloatOps.mulf (k0_pay16 X (ix2 r 0)) (Ops.cst 0x3B800000#32))
                (k0_pay16 X (ix2 r 0))) (Ops.cst 0x3D800000#32)) (Ops.cst 0x3E800000#32)) (Ops.cst 0x3F000000#32))
            (Ops.cst 0x3F000000#32)) (Ops.cst 0x3F800000#32)))) := rfl
  rw [e, low0_6_at, low0_5_at, climb0_at, inv0_3_at, hit0_4_at, ratio0_at]; rfl

end Quant

/-! ## The gated-product region -/

section GateUp
variable (H : Vec F S512x5632 .f32) (y : S512x1.Idx)

theorem ratio1_at : k1_pay3 H y = Ops.ratio (k1_pay2 H y) := rfl
theorem low1_0_at : k1_pay5 H y = Ops.low0 (k1_pay3 H y) := rfl
theorem low1_1_at : k1_pay8 H y = Ops.climb (k1_pay3 H y) (k1_pay5 H y) (Ops.cst 0x5F000000#32) := rfl
theorem low1_2_at : k1_pay11 H y = Ops.climb (k1_pay3 H y) (k1_pay8 H y) (Ops.cst 0x4F800000#32) := rfl
theorem low1_3_at : k1_pay14 H y = Ops.climb (k1_pay3 H y) (k1_pay11 H y) (Ops.cst 0x47800000#32) := rfl
theorem low1_4_at : k1_pay17 H y = Ops.climb (k1_pay3 H y) (k1_pay14 H y) (Ops.cst 0x43800000#32) := rfl

/-- The reciprocal after four steps. -/
theorem inv1_4_at : k1_pay18 H y = Ops.inv4 (k1_pay3 H y) := by
  have e : k1_pay18 H y = Ops.descend (k1_pay3 H y) (k1_pay14 H y) (Ops.cst 0x43800000#32)
      (Ops.descend (k1_pay3 H y) (k1_pay11 H y) (Ops.cst 0x47800000#32)
      (Ops.descend (k1_pay3 H y) (k1_pay8 H y) (Ops.cst 0x4F800000#32)
        (Ops.descend (k1_pay3 H y) (k1_pay5 H y) (Ops.cst 0x5F000000#32) (Ops.inv0 (k1_pay3 H y)) (Ops.cst 0x20000000#32))
        (Ops.cst 0x2F800000#32)) (Ops.cst 0x37800000#32)) (Ops.cst 0x3B800000#32) := rfl
  rw [e, low1_3_at, low1_2_at, low1_1_at, low1_0_at]; rfl

/-- Four steps of the climb. -/
theorem climb1_at : k1_pay17 H y = Ops.low4 (k1_pay3 H y) := by
  rw [low1_4_at, low1_3_at, low1_2_at, low1_1_at, low1_0_at]; rfl

section Rest
variable (v37 v70 : FVec F S512x1 .f32) (b : BitVec 32)
theorem low1_5_at : k1_pay21 v37 v70 (Ops.cst b) y = Ops.climb (v37 y) (v70 y) (Ops.cst b) := rfl
theorem hit1_5_at : k1_pay20 v37 v70 (Ops.cst b) y = Ops.hit (v37 y) (v70 y) (Ops.cst b) := rfl
theorem low1_6_at : k1_pay24 v37 v70 (Ops.cst b) y
    = Ops.climb (v37 y) (k1_pay21 v37 v70 (Ops.cst b) y) (Ops.cst 0x40800000#32) := rfl
end Rest

/-- The scale of a row. -/
theorem scale1_at : scale1 H y = Ops.kScale (k1_pay2 H y) := by
  have e : scale1 H y
      = Scalar.select (FloatOps.cmpf .oeq (k1_pay2 H y) (Ops.cst 0x00000000#32)) (Ops.cst 0x3F800000#32)
        (Scalar.select (Ops.plain (k1_pay3 H y)) (FloatOps.mulf (Ops.climb (k1_pay3 H y)
          (k1_pay24 (k1_pay3 H) (k1_pay17 H) (Ops.cst 0x41800000#32) y) (Ops.cst 0x40000000#32)) (Ops.cst 0x40000000#32))
          (Ops.cst 0x3F800000#32)) := rfl
  rw [e, low1_6_at, low1_5_at, climb1_at, ratio1_at]; rfl

/-- The code of an entry. -/
theorem code1_at (r : Fin 512) (k : Fin 5632) : codes1 H (ix2 r k) = Ops.kCode (k1_pay2 H (ix2 r 0)) (H (ix2 r k)) := by
  have e : codes1 H (ix2 r k)
      = FloatOps.truncf .fp8e4m3 Ops.narrows (Ops.clip (H (ix2 r k))
        (Scalar.select (FloatOps.cmpf .oeq (k1_pay2 H (ix2 r 0)) (Ops.cst 0x00000000#32)) (Ops.cst 0x3F800000#32)
        (Scalar.select (Ops.plain (k1_pay3 H (ix2 r 0))) (FloatOps.mulf (Ops.descend (k1_pay3 H (ix2 r 0))
          (k1_pay24 (k1_pay3 H) (k1_pay17 H) (Ops.cst 0x41800000#32) (ix2 r 0)) (Ops.cst 0x40000000#32)
          (Ops.descend (k1_pay3 H (ix2 r 0)) (k1_pay21 (k1_pay3 H) (k1_pay17 H) (Ops.cst 0x41800000#32) (ix2 r 0))
            (Ops.cst 0x40800000#32)
            (Ops.descend (k1_pay3 H (ix2 r 0)) (k1_pay17 H (ix2 r 0)) (Ops.cst 0x41800000#32)
              (k1_pay18 H (ix2 r 0)) (Ops.cst 0x3D800000#32)) (Ops.cst 0x3E800000#32)) (Ops.cst 0x3F000000#32))
            (Ops.cst 0x3F000000#32)) (Ops.cst 0x3F800000#32)))) := rfl
  rw [e, low1_6_at, low1_5_at, climb1_at, inv1_4_at, ratio1_at]; rfl

end GateUp

end Cert.KernelIdeal.Run

end
-- ==== Proof.KernelRow.lean ====
/- What one grid point of each region stores over the extended reals, row by row: a row's greatest magnitude, its scale and
   codes, and the gated product of one block of columns. -/
module

public import proofs.«01_k».proof.Proof.KernelPoint

@[expose] public section

noncomputable section

namespace Cert.KernelIdeal.Run

open Cert.KernelIdeal.Gen Cert.Proof
open Idealize.ShloMosaic
open scoped BigOperators

theorem wide0_at (X : Vec Ideal S128x8192 .bf16) (r : Fin 128) (k : Fin 8192) : k0_pay2 X (ix2 r k) = X (ix2 r k) := by
  unfold k0_pay2
  simp only [pointwise]

/-- A row's greatest magnitude. -/
theorem amax0_at (X : Vec Ideal S128x8192 .bf16) (r : Fin 128) :
    k0_pay3 X (ix2 r 0) = top fun k : Fin 8192 => X (ix2 r k) := by
  unfold k0_pay3 k0_pay2 top
  simp only [pointwise]
  rfl

/-- A row's greatest magnitude. -/
theorem amax1_at (H : Vec Ideal S512x5632 .f32) (r : Fin 512) :
    k1_pay2 H (ix2 r 0) = top fun k : Fin 5632 => H (ix2 r k) := by
  unfold k1_pay2 top
  simp only [pointwise]
  rfl

/-- One block of the gated product. -/
theorem block_at (xc : Vec Ideal S512x8192 .fp8e4m3) (xs : Vec Ideal S512x1 .f32) (wg wu : Vec Ideal S8192x512 .fp8e4m3)
    (sg su : Vec Ideal S1x512 .f32) (r c : Fin 512) :
    k1_pay1 xc xs wg wu sg su (ix2 r c)
      = gated (proj (fun k : Fin 8192 => xc (ix2 r k)) (xs (ix2 r 0)) (fun k => wg (ix2 k c)) (sg (ix2 0 c)))
        (proj (fun k : Fin 8192 => xc (ix2 r k)) (xs (ix2 r 0)) (fun k => wu (ix2 k c)) (su (ix2 0 c))) := by
  unfold k1_pay1 gated proj
  simp only [pointwise]
  rfl

end Cert.KernelIdeal.Run

end
-- ==== Proof.QuantArray.lean ====
/- Region 0's two result arrays over the extended reals: row by row, the codes and the scale of the rows it was given. -/
module

public import proofs.«01_k».proof.Proof.KernelRow
public import Idealize.ShloMosaic.Lib.Pipeline.ValueKit

@[expose] public section

noncomputable section

namespace Cert.KernelIdeal.Run

open Cert.KernelIdeal.Gen Cert.Proof
open Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-- The rows region 0 is given. -/
abbrev rows0 : Fin 1536 → Fin 8192 → EReal := fun r k => (V c main_v0 : S1536x8192.Idx → EReal) (ix2 r k)

theorem hz : (![0, 0] : Fin 2 → Nat) = fun _ => 0 := funext fun a => by fin_cases a <;> rfl

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![t.val, 0] := (by decide +kernel : ∀ t : Fin grid0.N, _)

/-- Row `r` of block `t`. -/
def row0 (t : Fin cfg0.N) (r : Fin 128) : Fin 1536 :=
  ⟨t.val * 128 + r.val, by have := lt_of_lt_of_eq t.isLt N_0; omega⟩

theorem row0_val (t : Fin cfg0.N) (r : Fin 128) : (row0 t r).val = t.val * 128 + r.val := rfl

/-! Where block `t` sits in each array. -/

theorem emb0_0 (t : Fin cfg0.N) (r : Fin 128) (k : Fin 8192) : (win0_0.blk t).view.emb (ix2 r k) = ix2 (row0 t r) k := by
  blk_ext [index0_0, row0_val]
theorem emb0_1 (t : Fin cfg0.N) (r : Fin 128) (k : Fin 8192) : (win0_1.blk t).view.emb (ix2 r k) = ix2 (row0 t r) k := by
  blk_ext [index0_1, row0_val]
theorem emb0_2 (t : Fin cfg0.N) (r : Fin 128) (k : Fin 1) : (win0_2.blk t).view.emb (ix2 r k) = ix2 (row0 t r) k := by
  blk_ext [index0_2, row0_val]

theorem block0_at (t : Fin cfg0.N) (r : Fin 128) (k : Fin 8192) :
    (iblk0 V c 0 t : S128x8192.Idx → EReal) (ix2 r k) = rows0 V c (row0 t r) k := by
  unfold iblk0
  blk_simp
  exact congrArg (V c main_v0) (emb0_0 t r k)

/-- The codes one grid point stores. -/
theorem out0_1_at (X : Vec Ideal S128x8192 .bf16) (r : Fin 128) (k : Fin 8192) :
    out0_1 X (ix2 r k) = codeOf (top fun k : Fin 8192 => X (ix2 r k)) (X (ix2 r k)) := by
  unfold out0_1
  rw [View.canon_unit_zero hz, View.ld_unit_zero hz, code0_at, Ops.kCode_ideal, amax0_at, wide0_at]

/-- The scales one grid point stores. -/
theorem out0_2_at (X : Vec Ideal S128x8192 .bf16) (r : Fin 128) :
    out0_2 X (ix2 r 0) = scaleOf (top fun k : Fin 8192 => X (ix2 r k)) := by
  unfold out0_2
  rw [View.canon_unit_zero hz, View.ld_unit_zero hz, scale0_at, Ops.kScale_ideal, amax0_at]

/-- The codes array after the region. -/
theorem xcodes_array : (dat0 V c).arrAt 1 cfg0.N = fun i : S1536x8192.Idx => xCodes (rows0 V c) (i 0) (i 1) := by
  refine (dat0 V c).arrAt_eq_of_covers 1 _ (by decide +kernel) fun t hf y => ?_
  blk_simp
  rw [after0_1]
  obtain ⟨r, k, rfl⟩ : ∃ (r : Fin 128) (k : Fin 8192), y = ix2 r k := ⟨_, _, eq_ix2 (n0 := 128) (n1 := 8192) y⟩
  rw [emb0_1]
  refine (out0_1_at _ r k).trans ?_
  simp only [block0_at]
  rfl

/-- The scales array after the region. -/
theorem xscale_array : (dat0 V c).arrAt 2 cfg0.N = fun i : S1536x1.Idx => xScale (rows0 V c) (i 0) := by
  refine (dat0 V c).arrAt_eq_of_covers 2 _ (by decide +kernel) fun t hf y => ?_
  blk_simp
  rw [after0_2]
  obtain ⟨r, k, rfl⟩ : ∃ (r : Fin 128) (k : Fin 1), y = ix2 r k := ⟨_, _, eq_ix2 (n0 := 128) (n1 := 1) y⟩
  obtain rfl : k = 0 := Subsingleton.elim _ _
  rw [emb0_2]
  refine (out0_2_at _ r).trans ?_
  simp only [block0_at]
  rfl

end Cert.KernelIdeal.Run

end
-- ==== Proof.GateUpArray.lean ====
/- Region 1's two result arrays over the extended reals: row by row, the codes and the scale of the gated product of the
   arrays it was given. -/
module

public import proofs.«01_k».proof.Proof.KernelRow
public import Idealize.ShloMosaic.Lib.Pipeline.ValueKit

@[expose] public section

noncomputable section

namespace Cert.KernelIdeal.Run

open Cert.KernelIdeal.Gen Cert.Proof
open Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-! The arrays the region is given: the input's codes and scales, the weights, the columns' scales. -/

abbrev codesIn (r : Fin 1536) (k : Fin 8192) : EReal := (V c main_v2_0 : S1536x8192.Idx → EReal) (ix2 r k)
abbrev scaleIn (r : Fin 1536) : EReal := (V c main_v2_1 : S1536x1.Idx → EReal) (ix2 r 0)
abbrev weightsIn (k : Fin 8192) (j : Fin 11264) : EReal := (V c main_arg1 : S8192x11264.Idx → EReal) (ix2 k j)
abbrev colsIn (j : Fin 11264) : EReal := (V c main_v1 : S1x11264.Idx → EReal) (ix2 0 j)

/-- The gated product of the arrays the region is given. -/
def product1 (r : Fin 1536) (j : Fin 5632) : EReal := gatedRow (codesIn V c r) (scaleIn V c r) (weightsIn V c) (colsIn V c) j

theorem index1_0 : ∀ t : Fin cfg1.N, win1_0.index t = ![t.val / 11, 0] := (by decide +kernel : ∀ t : Fin grid1.N, _)
theorem index1_1 : ∀ t : Fin cfg1.N, win1_1.index t = ![t.val / 11, 0] := (by decide +kernel : ∀ t : Fin grid1.N, _)
theorem index1_2 : ∀ t : Fin cfg1.N, win1_2.index t = ![0, t.val % 11] := (by decide +kernel : ∀ t : Fin grid1.N, _)
theorem index1_3 : ∀ t : Fin cfg1.N, win1_3.index t = ![0, t.val % 11 + 11] := (by decide +kernel : ∀ t : Fin grid1.N, _)
theorem index1_4 : ∀ t : Fin cfg1.N, win1_4.index t = ![0, t.val % 11] := (by decide +kernel : ∀ t : Fin grid1.N, _)
theorem index1_5 : ∀ t : Fin cfg1.N, win1_5.index t = ![0, t.val % 11 + 11] := (by decide +kernel : ∀ t : Fin grid1.N, _)
theorem index1_6 : ∀ t : Fin cfg1.N, win1_6.index t = ![t.val / 11, 0] := (by decide +kernel : ∀ t : Fin grid1.N, _)
theorem index1_7 : ∀ t : Fin cfg1.N, win1_7.index t = ![t.val / 11, 0] := (by decide +kernel : ∀ t : Fin grid1.N, _)

/-- Row `r` of the rows of point `t`. -/
def row1 (t : Fin cfg1.N) (r : Fin 512) : Fin 1536 :=
  ⟨t.val / 11 * 512 + r.val, by have := lt_of_lt_of_eq t.isLt N_1; omega⟩

/-- Column `x` of the gate columns of point `t`, -/
def gate1 (t : Fin cfg1.N) (x : Fin 512) : Fin 11264 := ⟨t.val % 11 * 512 + x.val, by omega⟩

/-- and of its up columns. -/
def up1 (t : Fin cfg1.N) (x : Fin 512) : Fin 11264 := ⟨(t.val % 11 + 11) * 512 + x.val, by omega⟩

theorem row1_val (t : Fin cfg1.N) (r : Fin 512) : (row1 t r).val = t.val / 11 * 512 + r.val := rfl
theorem gate1_val (t : Fin cfg1.N) (x : Fin 512) : (gate1 t x).val = t.val % 11 * 512 + x.val := rfl
theorem up1_val (t : Fin cfg1.N) (x : Fin 512) : (up1 t x).val = (t.val % 11 + 11) * 512 + x.val := rfl

/-! Where the blocks of point `t` sit in each array. -/

theorem emb1_0 (t : Fin cfg1.N) (r : Fin 512) (k : Fin 8192) : (win1_0.blk t).view.emb (ix2 r k) = ix2 (row1 t r) k := by
  blk_ext [index1_0, row1_val]
theorem emb1_1 (t : Fin cfg1.N) (r : Fin 512) (k : Fin 1) : (win1_1.blk t).view.emb (ix2 r k) = ix2 (row1 t r) k := by
  blk_ext [index1_1, row1_val]
theorem emb1_2 (t : Fin cfg1.N) (k : Fin 8192) (x : Fin 512) : (win1_2.blk t).view.emb (ix2 k x) = ix2 k (gate1 t x) := by
  blk_ext [index1_2, gate1_val]
theorem emb1_3 (t : Fin cfg1.N) (k : Fin 8192) (x : Fin 512) : (win1_3.blk t).view.emb (ix2 k x) = ix2 k (up1 t x) := by
  blk_ext [index1_3, up1_val]
theorem emb1_4 (t : Fin cfg1.N) (k : Fin 1) (x : Fin 512) : (win1_4.blk t).view.emb (ix2 k x) = ix2 k (gate1 t x) := by
  blk_ext [index1_4, gate1_val]
theorem emb1_5 (t : Fin cfg1.N) (k : Fin 1) (x : Fin 512) : (win1_5.blk t).view.emb (ix2 k x) = ix2 k (up1 t x) := by
  blk_ext [index1_5, up1_val]
theorem emb1_6 (t : Fin cfg1.N) (r : Fin 512) (k : Fin 5632) : (win1_6.blk t).view.emb (ix2 r k) = ix2 (row1 t r) k := by
  blk_ext [index1_6, row1_val]
theorem emb1_7 (t : Fin cfg1.N) (r : Fin 512) (k : Fin 1) : (win1_7.blk t).view.emb (ix2 r k) = ix2 (row1 t r) k := by
  blk_ext [index1_7, row1_val]

/-! The blocks of point `t`. -/

theorem iblk1_0_at (t : Fin cfg1.N) (r : Fin 512) (k : Fin 8192) :
    (iblk1 V c 0 t : S512x8192.Idx → EReal) (ix2 r k) = codesIn V c (row1 t r) k := by
  unfold iblk1
  blk_simp
  exact congrArg (V c main_v2_0) (emb1_0 t r k)
theorem iblk1_1_at (t : Fin cfg1.N) (r : Fin 512) :
    (iblk1 V c 1 t : S512x1.Idx → EReal) (ix2 r 0) = scaleIn V c (row1 t r) := by
  unfold iblk1
  blk_simp
  exact congrArg (V c main_v2_1) (emb1_1 t r 0)
theorem iblk1_2_at (t : Fin cfg1.N) (k : Fin 8192) (x : Fin 512) :
    (iblk1 V c 2 t : S8192x512.Idx → EReal) (ix2 k x) = weightsIn V c k (gate1 t x) := by
  unfold iblk1
  blk_simp
  exact congrArg (V c main_arg1) (emb1_2 t k x)
theorem iblk1_3_at (t : Fin cfg1.N) (k : Fin 8192) (x : Fin 512) :
    (iblk1 V c 3 t : S8192x512.Idx → EReal) (ix2 k x) = weightsIn V c k (up1 t x) := by
  unfold iblk1
  blk_simp
  exact congrArg (V c main_arg1) (emb1_3 t k x)
theorem iblk1_4_at (t : Fin cfg1.N) (x : Fin 512) :
    (iblk1 V c 4 t : S1x512.Idx → EReal) (ix2 0 x) = colsIn V c (gate1 t x) := by
  unfold iblk1
  blk_simp
  exact congrArg (V c main_v1) (emb1_4 t 0 x)
theorem iblk1_5_at (t : Fin cfg1.N) (x : Fin 512) :
    (iblk1 V c 5 t : S1x512.Idx → EReal) (ix2 0 x) = colsIn V c (up1 t x) := by
  unfold iblk1
  blk_simp
  exact congrArg (V c main_v1) (emb1_5 t 0 x)

/-- The block of 512 by 512 values point `t` computes is its block of the gated product. -/
theorem block1_at (t : Fin cfg1.N) (r x : Fin 512) (j : Fin 5632) (hj : j.val = t.val % 11 * 512 + x.val) :
    block1 V c t (ix2 r x) = product1 V c (row1 t r) j := by
  have hg : gate1 t x = ⟨j.val, by omega⟩ := Fin.ext (by rw [gate1_val, hj])
  have hu : up1 t x = ⟨j.val + 5632, by omega⟩ := Fin.ext (by rw [up1_val]; simp only []; omega)
  unfold block1
  rw [block_at, product1, gatedRow, iblk1_4_at, iblk1_5_at, iblk1_1_at]
  simp only [iblk1_0_at, iblk1_2_at, iblk1_3_at, hg, hu]

/-- The panel of the rows of point `t` holds their gated product. -/
theorem panel1_at (t : Fin cfg1.N) (r : Fin 512) (j : Fin 5632) :
    panel1 V c (t.val / 11) (ix2 r j) = product1 V c (row1 t r) j := by
  have ht := lt_of_lt_of_eq t.isLt N_1
  have hv : (pt1 (11 * (t.val / 11) + j.val / 512)).val = 11 * (t.val / 11) + j.val / 512 := by
    show (11 * (t.val / 11) + j.val / 512) % 33 = _
    omega
  have hr : row1 (pt1 (11 * (t.val / 11) + j.val / 512)) r = row1 t r := Fin.ext (by rw [row1_val, row1_val, hv]; omega)
  have hj : j.val = (pt1 (11 * (t.val / 11) + j.val / 512)).val % 11 * 512 + j.val % 512 := by rw [hv]; omega
  rw [← hr]
  exact block1_at V c _ r ⟨j.val % 512, by omega⟩ j hj

/-- The codes stored after a panel `H`. -/
theorem codes1_at (H : Vec Ideal S512x5632 .f32) (r : Fin 512) (k : Fin 5632) :
    codes1 H (ix2 r k) = codeOf (top fun j : Fin 5632 => H (ix2 r j)) (H (ix2 r k)) := by
  rw [code1_at, Ops.kCode_ideal, amax1_at]

/-- The scales stored after a panel `H`. -/
theorem scales1_at (H : Vec Ideal S512x5632 .f32) (r : Fin 512) :
    scale1 H (ix2 r 0) = scaleOf (top fun j : Fin 5632 => H (ix2 r j)) := by
  rw [scale1_at, Ops.kScale_ideal, amax1_at]

/-- If every point stores, as the codes of its rows, the values `G` has there, the codes array is `G`. -/
theorem codes_array_of (G : S1536x5632.Idx → EReal)
    (h : ∀ (t : Fin cfg1.N) r k, codes1 (panel1 V c (t.val / 11)) (ix2 r k) = G (ix2 (row1 t r) k)) :
    (dat1 V c).arrAt 6 cfg1.N = G := by
  refine (dat1 V c).arrAt_eq_of_covers 6 _ (by decide +kernel) fun t hf y => ?_
  have e : ∀ y : S512x5632.Idx, ((dat1 V c).after 6 t : S512x5632.Idx → EReal) y = G ((win1_6.blk t).view.emb y) := fun y => by
    rw [after1_6]
    obtain ⟨r, k, rfl⟩ : ∃ (r : Fin 512) (k : Fin 5632), y = ix2 r k := ⟨_, _, eq_ix2 (n0 := 512) (n1 := 5632) y⟩
    rw [emb1_6]
    exact h t r k
  refine (cast_eq _ _).trans ?_
  exact e y

/-- If every point stores, as the scales of its rows, the values `G` has there, the scales array is `G`. -/
theorem scales_array_of (G : S1536x1.Idx → EReal)
    (h : ∀ (t : Fin cfg1.N) r, scale1 (panel1 V c (t.val / 11)) (ix2 r 0) = G (ix2 (row1 t r) 0)) :
    (dat1 V c).arrAt 7 cfg1.N = G := by
  refine (dat1 V c).arrAt_eq_of_covers 7 _ (by decide +kernel) fun t hf y => ?_
  have e : ∀ y : S512x1.Idx, ((dat1 V c).after 7 t : S512x1.Idx → EReal) y = G ((win1_7.blk t).view.emb y) := fun y => by
    rw [after1_7]
    obtain ⟨r, k, rfl⟩ : ∃ (r : Fin 512) (k : Fin 1), y = ix2 r k := ⟨_, _, eq_ix2 (n0 := 512) (n1 := 1) y⟩
    obtain rfl : k = 0 := Subsingleton.elim _ _
    rw [emb1_7]
    exact h t r
  refine (cast_eq _ _).trans ?_
  exact e y

/-- The codes array after the region. -/
theorem hcodes_array : (dat1 V c).arrAt 6 cfg1.N
    = fun i : S1536x5632.Idx => codeOf (top (product1 V c (i 0))) (product1 V c (i 0) (i 1)) :=
  codes_array_of V c _ fun t r k => by
    rw [codes1_at]
    simp only [panel1_at]
    rfl

/-- The scales array after the region. -/
theorem hscale_array : (dat1 V c).arrAt 7 cfg1.N = fun i : S1536x1.Idx => scaleOf (top (product1 V c (i 0))) :=
  scales_array_of V c _ fun t r => by
    rw [scales1_at]
    simp only [panel1_at]
    rfl

end Cert.KernelIdeal.Run

end
-- ==== Proof.KernelValue.lean ====
/- The kernel's four results over the extended reals, as functions of its three arguments. -/
module

public import proofs.«01_k».proof.Proof.HostPoint
public import proofs.«01_k».proof.Proof.QuantArray
public import proofs.«01_k».proof.Proof.GateUpArray

@[expose] public section

noncomputable section

namespace Cert.KernelIdeal.Run

open Cert.KernelIdeal.Gen Cert.Proof
open Idealize.ShloMosaic Idealize.ShloMosaic.TcCoe

variable (m : (ℓ : Loc nD τ sig) → Buf (Elt Ideal) ℓ) (ρ : Dev nD → PrngReg) (c : Dev nD)

/-! The arguments: the rows, the weights and the columns' scales. -/

abbrev argRows : Fin 1536 → Fin 8192 → EReal :=
  rows fun b t k => (m ((c : Thread nD τ).loc main_arg0) : S2x768x8192.Idx → EReal) (ix3 b t k)
abbrev argWeights : Fin 8192 → Fin 11264 → EReal :=
  fun k j => (m ((c : Thread nD τ).loc main_arg1) : S8192x11264.Idx → EReal) (ix2 k j)
abbrev argCols : Fin 11264 → EReal := fun j => (m ((c : Thread nD τ).loc main_arg2) : S11264.Idx → EReal) (ix1 j)

/-! What region 0 is given and leaves. -/

theorem rows0_eq : rows0 (V1 m ρ) c = argRows m c :=
  funext fun r => funext fun k => rows_at (W0 m ρ c) r k

theorem v2_0_eq : (W2 m ρ c (Proc.devRef .tc main_v2_0) : S1536x8192.Idx → EReal)
    = fun i => xCodes (argRows m c) (i 0) (i 1) := by
  rw [← rows0_eq m ρ c]
  exact (W2_arr m ρ c 1).trans (xcodes_array (V1 m ρ) c)

theorem v2_1_eq : (W2 m ρ c (Proc.devRef .tc main_v2_1) : S1536x1.Idx → EReal) = fun i => xScale (argRows m c) (i 0) := by
  rw [← rows0_eq m ρ c]
  exact (W2_arr m ρ c 2).trans (xscale_array (V1 m ρ) c)

/-! What region 1 is given and leaves. -/

theorem codesIn_eq (r : Fin 1536) : codesIn (V2 m ρ) c r = xCodes (argRows m c) r :=
  funext fun k => congrFun (v2_0_eq m ρ c) (ix2 r k)

theorem scaleIn_eq (r : Fin 1536) : scaleIn (V2 m ρ) c r = xScale (argRows m c) r :=
  congrFun (v2_1_eq m ρ c) (ix2 r 0)

theorem weightsIn_eq : weightsIn (V2 m ρ) c = argWeights m c :=
  funext fun k => funext fun j => congrFun (W2_args m ρ c main_arg1 (by decide)) (ix2 k j)

theorem colsIn_eq : colsIn (V2 m ρ) c = argCols m c :=
  funext fun j => (congrFun (W2_of m ρ c main_v1 (by decide +kernel)) (ix2 0 j)).trans (cols_at (W0 m ρ c) j)

theorem product1_eq (r : Fin 1536) : product1 (V2 m ρ) c r = product (argRows m c) (argWeights m c) (argCols m c) r := by
  funext j
  unfold product1 product
  rw [codesIn_eq, scaleIn_eq, weightsIn_eq, colsIn_eq]

theorem v3_0_eq : (W3 m ρ c (Proc.devRef .tc main_v3_0) : S1536x5632.Idx → EReal)
    = fun i => hCodes (argRows m c) (argWeights m c) (argCols m c) (i 0) (i 1) := by
  refine ((W3_arr m ρ c 6).trans (hcodes_array (V2 m ρ) c)).trans (funext fun i => ?_)
  exact congrArg (fun f : Fin 5632 → EReal => codeOf (top f) (f (i 1))) (product1_eq m ρ c (i 0))

theorem v3_1_eq : (W3 m ρ c (Proc.devRef .tc main_v3_1) : S1536x1.Idx → EReal)
    = fun i => hScale (argRows m c) (argWeights m c) (argCols m c) (i 0) := by
  refine ((W3_arr m ρ c 7).trans (hscale_array (V2 m ρ) c)).trans (funext fun i => ?_)
  exact congrArg (fun f : Fin 5632 → EReal => scaleOf (top f)) (product1_eq m ρ c (i 0))

/-! The results. -/

theorem result0 (b : Fin 2) (t : Fin 768) : (W4 m ρ c (Proc.devRef .tc main_v4) : S2x768x1.Idx → EReal) (ix3 b t 0)
    = hScale (argRows m c) (argWeights m c) (argCols m c) (row b t) :=
  (ret4_at (W3 m ρ c) b t).trans (congrFun (v3_1_eq m ρ c) (ix2 (row b t) 0))

theorem result1 (b : Fin 2) (t : Fin 768) (k : Fin 5632) :
    (W4 m ρ c (Proc.devRef .tc main_v5) : S2x768x5632.Idx → EReal) (ix3 b t k)
      = hCodes (argRows m c) (argWeights m c) (argCols m c) (row b t) k :=
  (ret5_at (W3 m ρ c) b t k).trans (congrFun (v3_0_eq m ρ c) (ix2 (row b t) k))

theorem result2 (b : Fin 2) (t : Fin 768) (k : Fin 8192) :
    (W4 m ρ c (Proc.devRef .tc main_v6) : S2x768x8192.Idx → EReal) (ix3 b t k) = xCodes (argRows m c) (row b t) k :=
  (ret6_at (W3 m ρ c) b t k).trans
    ((congrFun (W3_of m ρ c main_v2_0 (by decide +kernel)) (ix2 (row b t) k)).trans (congrFun (v2_0_eq m ρ c) (ix2 (row b t) k)))

theorem result3 (b : Fin 2) (t : Fin 768) : (W4 m ρ c (Proc.devRef .tc main_v7) : S2x768x1.Idx → EReal) (ix3 b t 0)
    = xScale (argRows m c) (row b t) :=
  (ret7_at (W3 m ρ c) b t).trans
    ((congrFun (W3_of m ρ c main_v2_1 (by decide +kernel)) (ix2 (row b t) 0)).trans (congrFun (v2_1_eq m ρ c) (ix2 (row b t) 0)))

end Cert.KernelIdeal.Run

end
-- ==== Proof.RefPoint.lean ====
/- What the reference stores, at an index, over any interpretation of the floats: the scale of a row and the code of an entry
   as the row's scalar arithmetic (`Ops.rScale`, `Ops.rCode`) of the row's greatest magnitude. -/
module

public import proofs.«01_k».proof.Proof.Ladder
public import proofs.«01_k».proof.Proof.Gen.ReferenceIdeal.Skeleton
public import Idealize.ShloMosaic.Lib.Pointwise

@[expose] public section

noncomputable section

namespace Cert.ReferenceIdeal.Run

open Cert.ReferenceIdeal.Gen Cert.Proof
open Idealize.ShloMosaic

section Open
variable {F : FTy → Type} [FloatOps F]
variable (X : Vec F S2x768x8192 .bf16) (V : FVec F S1536x11264 .f32) (S : Vec F S1x11264 .f32)

/-- The rows' greatest magnitudes. -/
def xTop : FVec F S1536x1 .f32 := shapeCast S1536x1 (multiReduction .maximumf [1] S1536 (absf (k0_pay4 X)) 0xFF800000#32
  reduces_S1536x8192_S1536 (.inl rfl) rfl) shapeCasts_S1536_S1536x1

/-- The same of the gated product. -/
def hTop : FVec F S1536x1 .f32 := shapeCast S1536x1 (multiReduction .maximumf [1] S1536 (absf (k0_pay9 V S)) 0xFF800000#32
  reduces_S1536x5632_S1536 (.inl rfl) rfl) shapeCasts_S1536_S1536x1

theorem xExp_at (y : S1536x1.Idx) : k0_pay5 X y = Ops.rExp (xTop X y) := rfl
theorem xScale_at (y : S1536x1.Idx) : k0_pay7 X y = Ops.rScale (xTop X y) := rfl

theorem xCode_at (r : Fin 1536) (k : Fin 8192) :
    k0_pay6 X (ix2 r k) = Ops.rCode (xTop X (ix2 r 0)) (k0_pay4 X (ix2 r k)) := by
  have e : k0_pay6 X (ix2 r k) = FloatOps.truncf .fp8e4m3 Ops.narrows (Ops.clip (k0_pay4 X (ix2 r k))
    (FloatOps.exp2 (FloatOps.subf (Ops.cst 0x00000000#32) (k0_pay5 X (ix2 r 0))))) := rfl
  rw [e, xExp_at]; rfl

theorem hExp_at (y : S1536x1.Idx) : k0_pay10 V S y = Ops.rExp (hTop V S y) := rfl

theorem hCode_at (r : Fin 1536) (k : Fin 5632) :
    k0_pay11 V S (ix2 r k) = Ops.rCode (hTop V S (ix2 r 0)) (k0_pay9 V S (ix2 r k)) := by
  have e : k0_pay11 V S (ix2 r k) = FloatOps.truncf .fp8e4m3 Ops.narrows (Ops.clip (k0_pay9 V S (ix2 r k))
    (FloatOps.exp2 (FloatOps.subf (Ops.cst 0x00000000#32) (k0_pay10 V S (ix2 r 0))))) := rfl
  rw [e, hExp_at]; rfl

theorem hScale_eq : k0_pay12 V S = shapeCast S2x768x1 (fun y => Ops.rScale (hTop V S y)) shapeCasts_S1536x1_S2x768x1 := rfl

end Open

end Cert.ReferenceIdeal.Run

end
-- ==== Proof.RefRow.lean ====
/- What the reference stores over the extended reals, row by row. Row `t` of batch `b` is row `768 b + t` of the 1536. -/
module

public import proofs.«01_k».proof.Proof.RefPoint

@[expose] public section

noncomputable section

namespace Cert.ReferenceIdeal.Run

open Cert.ReferenceIdeal.Gen Cert.Proof
open Idealize.ShloMosaic
open scoped BigOperators

variable (X : Vec Ideal S2x768x8192 .bf16) (W : Vec Ideal S8192x11264 .fp8e4m3) (S : Vec Ideal S1x11264 .f32)

/-- The rows of the two batches, one after the other. -/
theorem wide_at (r : Fin 1536) (k : Fin 8192) : k0_pay4 X (ix2 r k) = rows (fun b t k => X (ix3 b t k)) r k := by
  unfold k0_pay4 rows
  simp only [pointwise]

theorem xTop_at (r : Fin 1536) : xTop X (ix2 r 0) = top fun k : Fin 8192 => k0_pay4 X (ix2 r k) := by
  unfold xTop top
  simp only [pointwise]
  rfl

theorem hTop_at (V : FVec Ideal S1536x11264 .f32) (r : Fin 1536) :
    hTop V S (ix2 r 0) = top fun k : Fin 5632 => k0_pay9 V S (ix2 r k) := by
  unfold hTop top
  simp only [pointwise]
  rfl

/-- The products of a row's codes with a column, times the row's scale. -/
theorem product_at (r : Fin 1536) (j : Fin 11264) :
    k0_pay8 X W (ix2 r j) = (lit 0x00000000#32 + ∑ k : Fin 8192, k0_pay6 X (ix2 r k) * W (ix2 k j)) * k0_pay7 X (ix2 r 0) := by
  unfold k0_pay8
  generalize k0_pay6 X = C
  generalize k0_pay7 X = D
  simp only [pointwise]
  rfl

/-- The gated product, from the products. -/
theorem gated_at (V : FVec Ideal S1536x11264 .f32) (r : Fin 1536) (j : Fin 5632) :
    k0_pay9 V S (ix2 r j)
      = gated (V (ix2 r ⟨j.val, by omega⟩) * S (ix2 0 ⟨j.val, by omega⟩))
        (V (ix2 r ⟨j.val + 5632, by omega⟩) * S (ix2 0 ⟨j.val + 5632, by omega⟩)) := by
  unfold k0_pay9 gated
  simp only [pointwise, Matrix.cons_val_zero, Matrix.cons_val_one, Nat.zero_add, Fin.eta, Nat.add_comm 5632]
  rfl

/-! The three stored arrays: batch `b`, row `t` is row `row b t`. -/

theorem store_codes (v : FVec Ideal S1536x5632 .fp8e4m3) (b : Fin 2) (t : Fin 768) (k : Fin 5632) :
    k0_pay1 v (ix3 b t k) = v (ix2 (row b t) k) := by
  unfold k0_pay1
  simp only [pointwise]
  rfl

theorem store_xcodes (v : FVec Ideal S1536x8192 .fp8e4m3) (b : Fin 2) (t : Fin 768) (k : Fin 8192) :
    k0_pay2 v (ix3 b t k) = v (ix2 (row b t) k) := by
  unfold k0_pay2
  simp only [pointwise]
  rfl

theorem store_xscale (v : FVec Ideal S1536x1 .f32) (b : Fin 2) (t : Fin 768) : k0_pay3 v (ix3 b t 0) = v (ix2 (row b t) 0) := by
  unfold k0_pay3
  simp only [pointwise]
  rfl

theorem store_hscale (V : FVec Ideal S1536x11264 .f32) (b : Fin 2) (t : Fin 768) :
    k0_pay12 V S (ix3 b t 0) = Ops.rScale (hTop V S (ix2 (row b t) 0)) := by
  rw [hScale_eq]
  show shapeCast S2x768x1 (fun y => Ops.rScale (hTop V S y)) _ (ix3 b t 0) = (fun y => Ops.rScale (hTop V S y)) (ix2 (row b t) 0)
  generalize (fun y => Ops.rScale (hTop V S y)) = f
  simp only [pointwise]
  rfl

/-! ## The results as the row mathematics -/

/-- The input's rows. -/
abbrev inRows : Fin 1536 → Fin 8192 → EReal := rows fun b t k => X (ix3 b t k)
/-- The weights. -/
abbrev inW : Fin 8192 → Fin 11264 → EReal := fun k j => W (ix2 k j)
/-- The columns' scales. -/
abbrev inS : Fin 11264 → EReal := fun j => S (ix2 0 j)

theorem xTop_eq (r : Fin 1536) : xTop X (ix2 r 0) = top (inRows X r) := by
  rw [xTop_at]
  exact congrArg top (funext fun k => wide_at X r k)

theorem xCodes_eq (r : Fin 1536) (k : Fin 8192) : k0_pay6 X (ix2 r k) = xCodes (inRows X) r k := by
  rw [xCode_at, Ops.rCode_ideal, xTop_eq, wide_at, xCodes]

theorem xScale_eq (r : Fin 1536) : k0_pay7 X (ix2 r 0) = xScale (inRows X) r := by
  rw [xScale_at, Ops.rScale_ideal, xTop_eq, xScale]

theorem product_eq (r : Fin 1536) (j : Fin 5632) :
    k0_pay9 (k0_pay8 X W) S (ix2 r j) = product (inRows X) (inW W) (inS S) r j := by
  rw [gated_at, product_at, product_at, xScale_eq]
  simp only [xCodes_eq]
  rfl

theorem hTop_eq (r : Fin 1536) : hTop (k0_pay8 X W) S (ix2 r 0) = top (product (inRows X) (inW W) (inS S) r) := by
  rw [hTop_at]
  exact congrArg top (funext fun k => product_eq X W S r k)

theorem hCodes_eq (r : Fin 1536) (j : Fin 5632) :
    k0_pay11 (k0_pay8 X W) S (ix2 r j) = hCodes (inRows X) (inW W) (inS S) r j := by
  rw [hCode_at, Ops.rCode_ideal, hTop_eq, product_eq, hCodes]

theorem hScale_eq' (r : Fin 1536) : Ops.rScale (hTop (k0_pay8 X W) S (ix2 r 0)) = hScale (inRows X) (inW W) (inS S) r := by
  rw [Ops.rScale_ideal, hTop_eq, hScale]

end Cert.ReferenceIdeal.Run

end
-- ==== Proof.RefValue.lean ====
/- The reference's four results over the extended reals, as functions of its three arguments. -/
module

public import proofs.«01_k».proof.Proof.RefRow
public import proofs.«01_k».proof.Proof.Gen.ReferenceIdeal.Frame
public import Idealize.ShloMosaic.Lib.Pipeline.ValueKit

@[expose] public section

noncomputable section

namespace Cert.ReferenceIdeal.Run

open Cert.ReferenceIdeal.Gen Cert.Proof
open Idealize.ShloMosaic Idealize.ShloMosaic.TcCoe
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

theorem index0_0 : ∀ t : Fin cfg0.N, win0_0.index t = ![0, 0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0, 0] := (by decide +kernel : ∀ t : Fin grid0.N, _)
theorem index0_4 : ∀ t : Fin cfg0.N, win0_4.index t = ![0, 0, 0] := (by decide +kernel : ∀ t : Fin grid0.N, _)
theorem index0_5 : ∀ t : Fin cfg0.N, win0_5.index t = ![0, 0, 0] := (by decide +kernel : ∀ t : Fin grid0.N, _)
theorem index0_6 : ∀ t : Fin cfg0.N, win0_6.index t = ![0, 0, 0] := (by decide +kernel : ∀ t : Fin grid0.N, _)

/-! Every block is its whole array. -/

theorem emb0_0 (t : Fin cfg0.N) (b : Fin 2) (s : Fin 768) (k : Fin 8192) : (win0_0.blk t).view.emb (ix3 b s k) = ix3 b s k := by
  blk_ext [index0_0]
theorem emb0_1 (t : Fin cfg0.N) (k : Fin 8192) (j : Fin 11264) : (win0_1.blk t).view.emb (ix2 k j) = ix2 k j := by
  blk_ext [index0_1]
theorem emb0_2 (t : Fin cfg0.N) (k : Fin 1) (j : Fin 11264) : (win0_2.blk t).view.emb (ix2 k j) = ix2 k j := by
  blk_ext [index0_2]
theorem emb0_3 (t : Fin cfg0.N) (b : Fin 2) (s : Fin 768) (k : Fin 1) : (win0_3.blk t).view.emb (ix3 b s k) = ix3 b s k := by
  blk_ext [index0_3]
theorem emb0_4 (t : Fin cfg0.N) (b : Fin 2) (s : Fin 768) (k : Fin 5632) : (win0_4.blk t).view.emb (ix3 b s k) = ix3 b s k := by
  blk_ext [index0_4]
theorem emb0_5 (t : Fin cfg0.N) (b : Fin 2) (s : Fin 768) (k : Fin 8192) : (win0_5.blk t).view.emb (ix3 b s k) = ix3 b s k := by
  blk_ext [index0_5]
theorem emb0_6 (t : Fin cfg0.N) (b : Fin 2) (s : Fin 768) (k : Fin 1) : (win0_6.blk t).view.emb (ix3 b s k) = ix3 b s k := by
  blk_ext [index0_6]

variable (m : (ℓ : Loc nD τ sig) → Buf (Elt Ideal) ℓ) (c : Dev nD)

/-! The arguments: the rows, the weights and the columns' scales. -/

abbrev argRows : Fin 1536 → Fin 8192 → EReal :=
  rows fun b t k => (m ((c : Thread nD τ).loc main_arg0) : S2x768x8192.Idx → EReal) (ix3 b t k)
abbrev argWeights : Fin 8192 → Fin 11264 → EReal :=
  fun k j => (m ((c : Thread nD τ).loc main_arg1) : S8192x11264.Idx → EReal) (ix2 k j)
abbrev argCols : Fin 11264 → EReal := fun j => (m ((c : Thread nD τ).loc main_arg2) : S11264.Idx → EReal) (ix1 j)

theorem cols_at (W : Valuation τ sig (Elt Ideal)) (j : Fin 11264) :
    (StableHlo.after hostOps0 W (Proc.devRef .tc main_v0) : S1x11264.Idx → EReal) (ix2 0 j)
      = (W (Proc.devRef .tc main_arg2) : S11264.Idx → EReal) (ix1 j) := by
  after_results_simp
  simp only [pointwise]

theorem inRows_eq (t : Fin cfg0.N) : inRows (iblk m c 0 t) = argRows m c := by
  refine congrArg rows (funext fun b => funext fun s => funext fun k => ?_)
  show (iblk m c 0 t : S2x768x8192.Idx → EReal) (ix3 b s k) = _
  unfold iblk
  blk_simp
  exact (congrArg (V m c main_arg0) (emb0_0 t b s k)).trans (congrFun (V_main_arg0 m c) (ix3 b s k))

theorem inW_eq (t : Fin cfg0.N) : inW (iblk m c 1 t) = argWeights m c := by
  refine funext fun k => funext fun j => ?_
  show (iblk m c 1 t : S8192x11264.Idx → EReal) (ix2 k j) = _
  unfold iblk
  blk_simp
  exact (congrArg (V m c main_arg1) (emb0_1 t k j)).trans (congrFun (V_main_arg1 m c) (ix2 k j))

theorem inS_eq (t : Fin cfg0.N) : inS (iblk m c 2 t) = argCols m c := by
  refine funext fun j => ?_
  show (iblk m c 2 t : S1x11264.Idx → EReal) (ix2 0 j) = _
  unfold iblk
  blk_simp
  exact (congrArg (V m c main_v0) (emb0_2 t 0 j)).trans (cols_at (fun b => m (c, b)) j)

/-! The four stores. -/

section Stores
variable (X : Vec Ideal S2x768x8192 .bf16) (W : Vec Ideal S8192x11264 .fp8e4m3) (S : Vec Ideal S1x11264 .f32)

theorem out0_3_at (b : Fin 2) (t : Fin 768) : out0_3 X W S (ix3 b t 0) = hScale (inRows X) (inW W) (inS S) (row b t) := by
  unfold out0_3 k0_pay13
  rw [View.canon_unit_zero hz3, View.ld_unit_zero hz3, View.ld_unit_zero hz2, View.ld_unit_zero hz2, store_hscale, hScale_eq']

theorem out0_4_at (b : Fin 2) (t : Fin 768) (j : Fin 5632) :
    out0_4 X W S (ix3 b t j) = hCodes (inRows X) (inW W) (inS S) (row b t) j := by
  unfold out0_4 k0_pay13
  rw [View.canon_unit_zero hz3, View.ld_unit_zero hz3, View.ld_unit_zero hz2, View.ld_unit_zero hz2, store_codes, hCodes_eq]

theorem out0_5_at (b : Fin 2) (t : Fin 768) (k : Fin 8192) : out0_5 X W S (ix3 b t k) = xCodes (inRows X) (row b t) k := by
  unfold out0_5
  rw [View.canon_unit_zero hz3, View.ld_unit_zero hz3, store_xcodes, xCodes_eq]

theorem out0_6_at (b : Fin 2) (t : Fin 768) : out0_6 X W S (ix3 b t 0) = xScale (inRows X) (row b t) := by
  unfold out0_6
  rw [View.canon_unit_zero hz3, View.ld_unit_zero hz3, store_xscale, xScale_eq]

end Stores

/-! The four arrays, from what the one grid point leaves. -/

theorem hscale_array (G : S2x768x1.Idx → EReal)
    (h : ∀ (b : Fin 2) (s : Fin 768), G (ix3 b s 0) = hScale (argRows m c) (argWeights m c) (argCols m c) (row b s)) :
    (dats m 0 c).arrAt 3 cfg0.N = G := by
  refine (dats m 0 c).arrAt_eq_of_covers 3 _ (by decide +kernel) fun t hf y => ?_
  have e : ∀ y : S2x768x1.Idx, ((dats m 0 c).after 3 t : S2x768x1.Idx → EReal) y = G ((win0_3.blk t).view.emb y) := fun y => by
    rw [after0_3]
    obtain ⟨b, s, k, rfl⟩ : ∃ (b : Fin 2) (s : Fin 768) (k : Fin 1), y = ix3 b s k :=
      ⟨_, _, _, eq_ix3 (n0 := 2) (n1 := 768) (n2 := 1) y⟩
    obtain rfl : k = 0 := Subsingleton.elim _ _
    rw [emb0_3, h]
    refine (out0_3_at (iblk m c 0 t) (iblk m c 1 t) (iblk m c 2 t) b s).trans ?_
    rw [inRows_eq, inW_eq, inS_eq]
  refine (cast_eq _ _).trans ?_
  exact e y

theorem hcodes_array (G : S2x768x5632.Idx → EReal)
    (h : ∀ (b : Fin 2) (s : Fin 768) (k : Fin 5632), G (ix3 b s k) = hCodes (argRows m c) (argWeights m c) (argCols m c) (row b s) k) :
    (dats m 0 c).arrAt 4 cfg0.N = G := by
  refine (dats m 0 c).arrAt_eq_of_covers 4 _ (by decide +kernel) fun t hf y => ?_
  have e : ∀ y : S2x768x5632.Idx, ((dats m 0 c).after 4 t : S2x768x5632.Idx → EReal) y = G ((win0_4.blk t).view.emb y) := fun y => by
    rw [after0_4]
    obtain ⟨b, s, k, rfl⟩ : ∃ (b : Fin 2) (s : Fin 768) (k : Fin 5632), y = ix3 b s k :=
      ⟨_, _, _, eq_ix3 (n0 := 2) (n1 := 768) (n2 := 5632) y⟩
    rw [emb0_4, h]
    refine (out0_4_at (iblk m c 0 t) (iblk m c 1 t) (iblk m c 2 t) b s k).trans ?_
    rw [inRows_eq, inW_eq, inS_eq]
  refine (cast_eq _ _).trans ?_
  exact e y

theorem xcodes_array (G : S2x768x8192.Idx → EReal)
    (h : ∀ (b : Fin 2) (s : Fin 768) (k : Fin 8192), G (ix3 b s k) = xCodes (argRows m c) (row b s) k) :
    (dats m 0 c).arrAt 5 cfg0.N = G := by
  refine (dats m 0 c).arrAt_eq_of_covers 5 _ (by decide +kernel) fun t hf y => ?_
  have e : ∀ y : S2x768x8192.Idx, ((dats m 0 c).after 5 t : S2x768x8192.Idx → EReal) y = G ((win0_5.blk t).view.emb y) := fun y => by
    rw [after0_5]
    obtain ⟨b, s, k, rfl⟩ : ∃ (b : Fin 2) (s : Fin 768) (k : Fin 8192), y = ix3 b s k :=
      ⟨_, _, _, eq_ix3 (n0 := 2) (n1 := 768) (n2 := 8192) y⟩
    rw [emb0_5, h]
    refine (out0_5_at (iblk m c 0 t) (iblk m c 1 t) (iblk m c 2 t) b s k).trans ?_
    rw [inRows_eq]
  refine (cast_eq _ _).trans ?_
  exact e y

theorem xscale_array (G : S2x768x1.Idx → EReal)
    (h : ∀ (b : Fin 2) (s : Fin 768), G (ix3 b s 0) = xScale (argRows m c) (row b s)) :
    (dats m 0 c).arrAt 6 cfg0.N = G := by
  refine (dats m 0 c).arrAt_eq_of_covers 6 _ (by decide +kernel) fun t hf y => ?_
  have e : ∀ y : S2x768x1.Idx, ((dats m 0 c).after 6 t : S2x768x1.Idx → EReal) y = G ((win0_6.blk t).view.emb y) := fun y => by
    rw [after0_6]
    obtain ⟨b, s, k, rfl⟩ : ∃ (b : Fin 2) (s : Fin 768) (k : Fin 1), y = ix3 b s k :=
      ⟨_, _, _, eq_ix3 (n0 := 2) (n1 := 768) (n2 := 1) y⟩
    obtain rfl : k = 0 := Subsingleton.elim _ _
    rw [emb0_6, h]
    refine (out0_6_at (iblk m c 0 t) (iblk m c 1 t) (iblk m c 2 t) b s).trans ?_
    rw [inRows_eq]
  refine (cast_eq _ _).trans ?_
  exact e y

end Cert.ReferenceIdeal.Run

end
-- ==== Proof.Algebraic.lean ====
/- The two programs end with the same four results, from the same arguments, over the extended reals. -/
module

public import proofs.«01_k».proof.Defs
public import proofs.«01_k».proof.Proof.KernelValue
public import proofs.«01_k».proof.Proof.RefValue

@[expose] public section

noncomputable section

namespace Cert.Proof

open Idealize.ShloMosaic Idealize.ShloMosaic.TcCoe Idealize.SL.Sem

attribute [local instance] Cert.KernelIdeal.Gen.facts Cert.ReferenceIdeal.Gen.facts

/-- The kernel's run: its results are the last boundary's contents, its arguments as launched. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v4) = Cert.KernelIdeal.Run.W4 m g c (Proc.devRef .tc Cert.KernelIdeal.main_v4)
      ∧ r.2.mem ((c.tc : Thread Cert.KernelIdeal.nD Cert.KernelIdeal.τ).loc Cert.KernelIdeal.main_v5) = Cert.KernelIdeal.Run.W4 m g c (Proc.devRef .tc Cert.KernelIdeal.main_v5)
      ∧ r.2.mem ((c.tc : Thread Cert.KernelIdeal.nD Cert.KernelIdeal.τ).loc Cert.KernelIdeal.main_v6) = Cert.KernelIdeal.Run.W4 m g c (Proc.devRef .tc Cert.KernelIdeal.main_v6)
      ∧ r.2.mem ((c.tc : Thread Cert.KernelIdeal.nD Cert.KernelIdeal.τ).loc Cert.KernelIdeal.main_v7) = Cert.KernelIdeal.Run.W4 m g c (Proc.devRef .tc Cert.KernelIdeal.main_v7)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun _ h c =>
    ⟨h.1 c _ (Cert.KernelIdeal.Run.mem_uc Cert.KernelIdeal.main_v4 (by decide)),
     h.1 c _ (Cert.KernelIdeal.Run.mem_uc Cert.KernelIdeal.main_v5 (by decide)),
     h.1 c _ (Cert.KernelIdeal.Run.mem_uc Cert.KernelIdeal.main_v6 (by decide)),
     h.1 c _ (Cert.KernelIdeal.Run.mem_uc Cert.KernelIdeal.main_v7 (by decide)),
     (h.1 c _ (Cert.KernelIdeal.Run.mem_uc Cert.KernelIdeal.main_arg0 (by decide))).trans (Cert.KernelIdeal.Run.W4_main_arg0 m g c),
     (h.1 c _ (Cert.KernelIdeal.Run.mem_uc Cert.KernelIdeal.main_arg1 (by decide))).trans (Cert.KernelIdeal.Run.W4_main_arg1 m g c),
     (h.1 c _ (Cert.KernelIdeal.Run.mem_uc Cert.KernelIdeal.main_arg2 (by decide))).trans (Cert.KernelIdeal.Run.W4_main_arg2 m g c)⟩)
    (Cert.KernelIdeal.Run.run m g)

section Reference
open Cert.ReferenceIdeal Cert.ReferenceIdeal.Gen Cert.ReferenceIdeal.Run

/-- The reference's run: its results are whatever arrays hold the row mathematics of its arguments, its arguments as launched. -/
theorem reference_run (m : (ℓ : Loc nD τ sig) → Buf (Elt Ideal) ℓ) (g : Dev nD → PrngReg)
    (G0 : Dev nD → S2x768x1.Idx → EReal) (G1 : Dev nD → S2x768x5632.Idx → EReal)
    (G2 : Dev nD → S2x768x8192.Idx → EReal) (G3 : Dev nD → S2x768x1.Idx → EReal)
    (h0 : ∀ c b s, G0 c (ix3 b s 0) = hScale (argRows m c) (argWeights m c) (argCols m c) (row b s))
    (h1 : ∀ c b s k, G1 c (ix3 b s k) = hCodes (argRows m c) (argWeights m c) (argCols m c) (row b s) k)
    (h2 : ∀ c b s k, G2 c (ix3 b s k) = xCodes (argRows m c) (row b s) k)
    (h3 : ∀ c b s, G3 c (ix3 b s 0) = xScale (argRows m c) (row b s)) :
    θ_run (defs (F := Ideal)) (onTc (τ := τ) (main (F := Ideal))) ⟨m, fun _ => 0, g⟩ (fun r => ∀ c : Dev nD,
      r.2.mem ((c.tc : Thread nD τ).loc main_v1_0) = G0 c
      ∧ r.2.mem ((c.tc : Thread nD τ).loc main_v1_1) = G1 c
      ∧ r.2.mem ((c.tc : Thread nD τ).loc main_v1_2) = G2 c
      ∧ r.2.mem ((c.tc : Thread nD τ).loc main_v1_3) = G3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c =>
    ⟨((h c).1 3).trans (hscale_array m c (G0 c) (h0 c)),
     ((h c).1 4).trans (hcodes_array m c (G1 c) (h1 c)),
     ((h c).1 5).trans (xcodes_array m c (G2 c) (h2 c)),
     ((h c).1 6).trans (xscale_array m c (G3 c) (h3 c)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c)⟩)
    (run_main m g)

end Reference

/-- The algebraic claim. -/
theorem algebraic : Cert.algebraic_KernelIdeal_ReferenceIdeal := fun m g m' g' _ args => by
  have eX (c) : Cert.ReferenceIdeal.Run.argRows m' c = Cert.KernelIdeal.Run.argRows m c :=
    congrArg rows (funext fun b => funext fun t => funext fun k => congrFun (args c).1 (ix3 b t k))
  have eW (c) : Cert.ReferenceIdeal.Run.argWeights m' c = Cert.KernelIdeal.Run.argWeights m c :=
    funext fun k => funext fun j => congrFun (args c).2.1 (ix2 k j)
  have eS (c) : Cert.ReferenceIdeal.Run.argCols m' c = Cert.KernelIdeal.Run.argCols m c :=
    funext fun j => congrFun (args c).2.2 (ix1 j)
  exact ⟨_, _, _, _, kernel_run m g, reference_run m' g' _ _ _ _
    (fun c b s => by rw [eX, eW, eS]; exact Cert.KernelIdeal.Run.result0 m g c b s)
    (fun c b s k => by rw [eX, eW, eS]; exact Cert.KernelIdeal.Run.result1 m g c b s k)
    (fun c b s k => by rw [eX]; exact Cert.KernelIdeal.Run.result2 m g c b s k)
    (fun c b s => by rw [eX]; exact Cert.KernelIdeal.Run.result3 m g c b s)⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.FrameBits
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    quiescent_Kernel, quiescent_KernelIdeal, fun m g _ => Cert.ReferenceIdeal.Gen.frame m g, trivial, algebraic⟩

end Cert.Proof

end
